-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 2, 64]⟩ ⟨4, ![2, 1024, 2, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 2, 64]⟩ ⟨4, ![2, 1024, 2, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x2x64 : Shape := ⟨4, ![2, 128, 2, 64]⟩
abbrev S256x512 : Shape := ⟨2, ![256, 512]⟩
abbrev S256x128 : Shape := ⟨2, ![256, 128]⟩
abbrev S512x128 : Shape := ⟨2, ![512, 128]⟩
abbrev S4096x128 : Shape := ⟨2, ![4096, 128]⟩
abbrev S7x4 : Shape := ⟨2, ![7, 4]⟩
abbrev S8x4 : Shape := ⟨2, ![8, 4]⟩
abbrev S_ : Shape := ⟨0, ![]⟩
abbrev S128x128 : Shape := ⟨2, ![128, 128]⟩
abbrev S1x1 : Shape := ⟨2, ![1, 1]⟩
abbrev S1024x64 : Shape := ⟨2, ![1024, 64]⟩
abbrev S128x64 : Shape := ⟨2, ![128, 64]⟩
abbrev S512x64 : Shape := ⟨2, ![512, 64]⟩
abbrev S512x1024 : Shape := ⟨2, ![512, 1024]⟩
abbrev S512 : Shape := ⟨1, ![512]⟩
abbrev S512x1 : Shape := ⟨2, ![512, 1]⟩
abbrev S128x512 : Shape := ⟨2, ![128, 512]⟩

abbrev nBuf : Space → Nat
  | .hbm => 11
  | .vmem => 6
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x2x64, .f32⟩
  | .hbm, ⟨3, _⟩ => ⟨S2x128x2x64, .f32⟩
  | .hbm, ⟨4, _⟩ => ⟨S512x512, .f32⟩
  | .hbm, ⟨5, _⟩ => ⟨S256x512, .f32⟩
  | .hbm, ⟨6, _⟩ => ⟨S256x128, .f32⟩
  | .hbm, ⟨7, _⟩ => ⟨S256x128, .f32⟩
  | .hbm, ⟨8, _⟩ => ⟨S512x128, .f32⟩
  | .hbm, ⟨9, _⟩ => ⟨S256x512, .f32⟩
  | .hbm, ⟨10, _⟩ => ⟨S2x128x512, .f32⟩
  | .local _ .vmem, ⟨0, _⟩ => ⟨S256x512, .f32⟩
  | .local _ .vmem, ⟨1, _⟩ => ⟨S512x512, .f32⟩
  | .local _ .vmem, ⟨2, _⟩ => ⟨S512x512, .f32⟩
  | .local _ .vmem, ⟨3, _⟩ => ⟨S512x128, .f32⟩
  | .local _ .vmem, ⟨4, _⟩ => ⟨S256x512, .f32⟩
  | .local _ .vmem, ⟨5, _⟩ => ⟨S4096x128, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c0_i32 : BitVec 32 := 0#32
  let v5 : BitVec 32 := Scalar.addi v4 c0_i32
  let c8_i32_1 : BitVec 32 := 8#32
  let c0_i32_2 : BitVec 32 := 0#32
  let v6 : BitVec 1 := Scalar.cmpi .eq c8_i32_1 c0_i32_2
  let c1_i32_3 : BitVec 32 := 1#32
  let v7 : BitVec 32 := Scalar.select v6 c1_i32_3 c8_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v18 : BitVec 32 := Scalar.addi v2 c1_i32_10
  let c1_i32_11 : BitVec 32 := 1#32
  let v19 : BitVec 32 := Scalar.addi v18 c1_i32_11
  let c8_i32_12 : BitVec 32 := 8#32
  let c0_i32_13 : BitVec 32 := 0#32
  let v20 : BitVec 1 := Scalar.cmpi .eq c8_i32_12 c0_i32_13
  let c1_i32_14 : BitVec 32 := 1#32
  let v21 : BitVec 32 := Scalar.select v20 c1_i32_14 c8_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v32 : BitVec 32 := Scalar.addi v2 c1_i32_21
  let c2_i32 : BitVec 32 := 2#32
  let v33 : BitVec 32 := Scalar.addi v32 c2_i32
  let c8_i32_22 : BitVec 32 := 8#32
  let c0_i32_23 : BitVec 32 := 0#32
  let v34 : BitVec 1 := Scalar.cmpi .eq c8_i32_22 c0_i32_23
  let c1_i32_24 : BitVec 32 := 1#32
  let v35 : BitVec 32 := Scalar.select v34 c1_i32_24 c8_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v46 : BitVec 32 := Scalar.addi v2 c1_i32_31
  let c3_i32 : BitVec 32 := 3#32
  let v47 : BitVec 32 := Scalar.addi v46 c3_i32
  let c8_i32_32 : BitVec 32 := 8#32
  let c0_i32_33 : BitVec 32 := 0#32
  let v48 : BitVec 1 := Scalar.cmpi .eq c8_i32_32 c0_i32_33
  let c1_i32_34 : BitVec 32 := 1#32
  let v49 : BitVec 32 := Scalar.select v48 c1_i32_34 c8_i32_32
  let v50 : BitVec 32 := Scalar.remsi v47 v49
  let c0_i32_36 : BitVec 32 := 0#32
  let v52 : BitVec 1 := Scalar.cmpi .slt v50 c0_i32_36
  let c0_i32_37 : BitVec 32 := 0#32
  let v53 : BitVec 1 := Scalar.cmpi .slt v49 c0_i32_37
  let v54 : BitVec 1 := Scalar.xori v52 v53
  let c0_i32_35 : BitVec 32 := 0#32
  let v51 : BitVec 1 := Scalar.cmpi .ne v50 c0_i32_35
  let v55 : BitVec 1 := Scalar.andi v54 v51
  let v56 : BitVec 32 := Scalar.addi v50 v49
  let v57 : BitVec 32 := Scalar.select v55 v56 v50
  let c1_i32_39 : BitVec 32 := 1#32
  let v58 : BitVec 32 := Scalar.muli v57 c1_i32_39
  let v59 : BitVec 32 := Scalar.addi c0_i32_40 v58
  v59.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v60 : BitVec 32 := Scalar.addi v2 c1_i32_41
  let c4_i32 : BitVec 32 := 4#32
  let v61 : BitVec 32 := Scalar.addi v60 c4_i32
  let c8_i32_42 : BitVec 32 := 8#32
  let c0_i32_43 : BitVec 32 := 0#32
  let v62 : BitVec 1 := Scalar.cmpi .eq c8_i32_42 c0_i32_43
  let c1_i32_44 : BitVec 32 := 1#32
  let v63 : BitVec 32 := Scalar.select v62 c1_i32_44 c8_i32_42
  let v64 : BitVec 32 := Scalar.remsi v61 v63
  let c0_i32_46 : BitVec 32 := 0#32
  let v66 : BitVec 1 := Scalar.cmpi .slt v64 c0_i32_46
  let c0_i32_47 : BitVec 32 := 0#32
  let v67 : BitVec 1 := Scalar.cmpi .slt v63 c0_i32_47
  let v68 : BitVec 1 := Scalar.xori v66 v67
  let c0_i32_45 : BitVec 32 := 0#32
  let v65 : BitVec 1 := Scalar.cmpi .ne v64 c0_i32_45
  let v69 : BitVec 1 := Scalar.andi v68 v65
  let v70 : BitVec 32 := Scalar.addi v64 v63
  let v71 : BitVec 32 := Scalar.select v69 v70 v64
  let c1_i32_49 : BitVec 32 := 1#32
  let v72 : BitVec 32 := Scalar.muli v71 c1_i32_49
  let v73 : BitVec 32 := Scalar.addi c0_i32_50 v72
  v73.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v74 : BitVec 32 := Scalar.addi v2 c1_i32_51
  let c5_i32 : BitVec 32 := 5#32
  let v75 : BitVec 32 := Scalar.addi v74 c5_i32
  let c8_i32_52 : BitVec 32 := 8#32
  let c0_i32_53 : BitVec 32 := 0#32
  let v76 : BitVec 1 := Scalar.cmpi .eq c8_i32_52 c0_i32_53
  let c1_i32_54 : BitVec 32 := 1#32
  let v77 : BitVec 32 := Scalar.select v76 c1_i32_54 c8_i32_52
  let v78 : BitVec 32 := Scalar.remsi v75 v77
  let c0_i32_56 : BitVec 32 := 0#32
  let v80 : BitVec 1 := Scalar.cmpi .slt v78 c0_i32_56
  let c0_i32_57 : BitVec 32 := 0#32
  let v81 : BitVec 1 := Scalar.cmpi .slt v77 c0_i32_57
  let v82 : BitVec 1 := Scalar.xori v80 v81
  let c0_i32_55 : BitVec 32 := 0#32
  let v79 : BitVec 1 := Scalar.cmpi .ne v78 c0_i32_55
  let v83 : BitVec 1 := Scalar.andi v82 v79
  let v84 : BitVec 32 := Scalar.addi v78 v77
  let v85 : BitVec 32 := Scalar.select v83 v84 v78
  let c1_i32_59 : BitVec 32 := 1#32
  let v86 : BitVec 32 := Scalar.muli v85 c1_i32_59
  let v87 : BitVec 32 := Scalar.addi c0_i32_60 v86
  v87.toNat
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v88 : BitVec 32 := Scalar.addi v2 c1_i32_61
  let c6_i32 : BitVec 32 := 6#32
  let v89 : BitVec 32 := Scalar.addi v88 c6_i32
  let c8_i32_62 : BitVec 32 := 8#32
  let c0_i32_63 : BitVec 32 := 0#32
  let v90 : BitVec 1 := Scalar.cmpi .eq c8_i32_62 c0_i32_63
  let c1_i32_64 : BitVec 32 := 1#32
  let v91 : BitVec 32 := Scalar.select v90 c1_i32_64 c8_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c1_i32_69 : BitVec 32 := 1#32
  let v100 : BitVec 32 := Scalar.muli v99 c1_i32_69
  let v101 : BitVec 32 := Scalar.addi c0_i32_70 v100
  v101.toNat
def k0_off1 (d0 : Dev nD) (c0_i32_72 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v104 : BitVec 32 := Scalar.muli v2 c128_i32
  let v105 : BitVec 32 := Scalar.addi c0_i32_72 v104
  let v106 : Index := Scalar.indexCast v105
  let c0_73 : Index := 0#32
  ![v106.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  ![v2.toNat, 0]
def k0_off3 (d0 : Dev nD) (c0_i32_94 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_93 : BitVec 32 := 128#32
  let v148 : BitVec 32 := Scalar.muli v2 c128_i32_93
  let v149 : BitVec 32 := Scalar.addi c0_i32_94 v148
  let c0_i32_100 : BitVec 32 := 0#32
  ![v149.toNat, 0]
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v134 : BitVec 32 := Scalar.addi v2 c1_i32_83
  let c0_i32_84 : BitVec 32 := 0#32
  let v135 : BitVec 32 := Scalar.addi v134 c0_i32_84
  let c8_i32_85 : BitVec 32 := 8#32
  let c0_i32_86 : BitVec 32 := 0#32
  let v136 : BitVec 1 := Scalar.cmpi .eq c8_i32_85 c0_i32_86
  let c1_i32_87 : BitVec 32 := 1#32
  let v137 : BitVec 32 := Scalar.select v136 c1_i32_87 c8_i32_85
  let v138 : BitVec 32 := Scalar.remsi v135 v137
  let c0_i32_89 : BitVec 32 := 0#32
  let v140 : BitVec 1 := Scalar.cmpi .slt v138 c0_i32_89
  let c0_i32_90 : BitVec 32 := 0#32
  let v141 : BitVec 1 := Scalar.cmpi .slt v137 c0_i32_90
  let v142 : BitVec 1 := Scalar.xori v140 v141
  let c0_i32_88 : BitVec 32 := 0#32
  let v139 : BitVec 1 := Scalar.cmpi .ne v138 c0_i32_88
  let v143 : BitVec 1 := Scalar.andi v142 v139
  let v144 : BitVec 32 := Scalar.addi v138 v137
  let v145 : BitVec 32 := Scalar.select v143 v144 v138
  let c1_i32_98 : BitVec 32 := 1#32
  let v150 : BitVec 32 := Scalar.muli v145 c1_i32_98
  let v151 : BitVec 32 := Scalar.addi c0_i32_99 v150
  v151.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_106 : BitVec 32 := 1#32
  ![v2.toNat, 1]
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v134 : BitVec 32 := Scalar.addi v2 c1_i32_83
  let c0_i32_84 : BitVec 32 := 0#32
  let v135 : BitVec 32 := Scalar.addi v134 c0_i32_84
  let c8_i32_85 : BitVec 32 := 8#32
  let c0_i32_86 : BitVec 32 := 0#32
  let v136 : BitVec 1 := Scalar.cmpi .eq c8_i32_85 c0_i32_86
  let c1_i32_87 : BitVec 32 := 1#32
  let v137 : BitVec 32 := Scalar.select v136 c1_i32_87 c8_i32_85
  let v138 : BitVec 32 := Scalar.remsi v135 v137
  let c0_i32_89 : BitVec 32 := 0#32
  let v140 : BitVec 1 := Scalar.cmpi .slt v138 c0_i32_89
  let c0_i32_90 : BitVec 32 := 0#32
  let v141 : BitVec 1 := Scalar.cmpi .slt v137 c0_i32_90
  let v142 : BitVec 1 := Scalar.xori v140 v141
  let c0_i32_88 : BitVec 32 := 0#32
  let v139 : BitVec 1 := Scalar.cmpi .ne v138 c0_i32_88
  let v143 : BitVec 1 := Scalar.andi v142 v139
  let v144 : BitVec 32 := Scalar.addi v138 v137
  let v145 : BitVec 32 := Scalar.select v143 v144 v138
  let c1_i32_109 : BitVec 32 := 1#32
  let v162 : BitVec 32 := Scalar.muli v145 c1_i32_109
  let v163 : BitVec 32 := Scalar.addi c0_i32_110 v162
  v163.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_117 : BitVec 32 := 2#32
  ![v2.toNat, 2]
def k0_dev10 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v134 : BitVec 32 := Scalar.addi v2 c1_i32_83
  let c0_i32_84 : BitVec 32 := 0#32
  let v135 : BitVec 32 := Scalar.addi v134 c0_i32_84
  let c8_i32_85 : BitVec 32 := 8#32
  let c0_i32_86 : BitVec 32 := 0#32
  let v136 : BitVec 1 := Scalar.cmpi .eq c8_i32_85 c0_i32_86
  let c1_i32_87 : BitVec 32 := 1#32
  let v137 : BitVec 32 := Scalar.select v136 c1_i32_87 c8_i32_85
  let v138 : BitVec 32 := Scalar.remsi v135 v137
  let c0_i32_89 : BitVec 32 := 0#32
  let v140 : BitVec 1 := Scalar.cmpi .slt v138 c0_i32_89
  let c0_i32_90 : BitVec 32 := 0#32
  let v141 : BitVec 1 := Scalar.cmpi .slt v137 c0_i32_90
  let v142 : BitVec 1 := Scalar.xori v140 v141
  let c0_i32_88 : BitVec 32 := 0#32
  let v139 : BitVec 1 := Scalar.cmpi .ne v138 c0_i32_88
  let v143 : BitVec 1 := Scalar.andi v142 v139
  let v144 : BitVec 32 := Scalar.addi v138 v137
  let v145 : BitVec 32 := Scalar.select v143 v144 v138
  let c1_i32_120 : BitVec 32 := 1#32
  let v174 : BitVec 32 := Scalar.muli v145 c1_i32_120
  let v175 : BitVec 32 := Scalar.addi c0_i32_121 v174
  v175.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_128 : BitVec 32 := 3#32
  ![v2.toNat, 3]
def k0_dev11 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v134 : BitVec 32 := Scalar.addi v2 c1_i32_83
  let c0_i32_84 : BitVec 32 := 0#32
  let v135 : BitVec 32 := Scalar.addi v134 c0_i32_84
  let c8_i32_85 : BitVec 32 := 8#32
  let c0_i32_86 : BitVec 32 := 0#32
  let v136 : BitVec 1 := Scalar.cmpi .eq c8_i32_85 c0_i32_86
  let c1_i32_87 : BitVec 32 := 1#32
  let v137 : BitVec 32 := Scalar.select v136 c1_i32_87 c8_i32_85
  let v138 : BitVec 32 := Scalar.remsi v135 v137
  let c0_i32_89 : BitVec 32 := 0#32
  let v140 : BitVec 1 := Scalar.cmpi .slt v138 c0_i32_89
  let c0_i32_90 : BitVec 32 := 0#32
  let v141 : BitVec 1 := Scalar.cmpi .slt v137 c0_i32_90
  let v142 : BitVec 1 := Scalar.xori v140 v141
  let c0_i32_88 : BitVec 32 := 0#32
  let v139 : BitVec 1 := Scalar.cmpi .ne v138 c0_i32_88
  let v143 : BitVec 1 := Scalar.andi v142 v139
  let v144 : BitVec 32 := Scalar.addi v138 v137
  let v145 : BitVec 32 := Scalar.select v143 v144 v138
  let c1_i32_131 : BitVec 32 := 1#32
  let v186 : BitVec 32 := Scalar.muli v145 c1_i32_131
  let v187 : BitVec 32 := Scalar.addi c0_i32_132 v186
  v187.toNat
def k0_dev12 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v194 : BitVec 32 := Scalar.addi v2 c1_i32_135
  let c1_i32_136 : BitVec 32 := 1#32
  let v195 : BitVec 32 := Scalar.addi v194 c1_i32_136
  let c8_i32_137 : BitVec 32 := 8#32
  let c0_i32_138 : BitVec 32 := 0#32
  let v196 : BitVec 1 := Scalar.cmpi .eq c8_i32_137 c0_i32_138
  let c1_i32_139 : BitVec 32 := 1#32
  let v197 : BitVec 32 := Scalar.select v196 c1_i32_139 c8_i32_137
  let v198 : BitVec 32 := Scalar.remsi v195 v197
  let c0_i32_141 : BitVec 32 := 0#32
  let v200 : BitVec 1 := Scalar.cmpi .slt v198 c0_i32_141
  let c0_i32_142 : BitVec 32 := 0#32
  let v201 : BitVec 1 := Scalar.cmpi .slt v197 c0_i32_142
  let v202 : BitVec 1 := Scalar.xori v200 v201
  let c0_i32_140 : BitVec 32 := 0#32
  let v199 : BitVec 1 := Scalar.cmpi .ne v198 c0_i32_140
  let v203 : BitVec 1 := Scalar.andi v202 v199
  let v204 : BitVec 32 := Scalar.addi v198 v197
  let v205 : BitVec 32 := Scalar.select v203 v204 v198
  let c1_i32_150 : BitVec 32 := 1#32
  let v210 : BitVec 32 := Scalar.muli v205 c1_i32_150
  let v211 : BitVec 32 := Scalar.addi c0_i32_151 v210
  v211.toNat
def k0_dev13 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v194 : BitVec 32 := Scalar.addi v2 c1_i32_135
  let c1_i32_136 : BitVec 32 := 1#32
  let v195 : BitVec 32 := Scalar.addi v194 c1_i32_136
  let c8_i32_137 : BitVec 32 := 8#32
  let c0_i32_138 : BitVec 32 := 0#32
  let v196 : BitVec 1 := Scalar.cmpi .eq c8_i32_137 c0_i32_138
  let c1_i32_139 : BitVec 32 := 1#32
  let v197 : BitVec 32 := Scalar.select v196 c1_i32_139 c8_i32_137
  let v198 : BitVec 32 := Scalar.remsi v195 v197
  let c0_i32_141 : BitVec 32 := 0#32
  let v200 : BitVec 1 := Scalar.cmpi .slt v198 c0_i32_141
  let c0_i32_142 : BitVec 32 := 0#32
  let v201 : BitVec 1 := Scalar.cmpi .slt v197 c0_i32_142
  let v202 : BitVec 1 := Scalar.xori v200 v201
  let c0_i32_140 : BitVec 32 := 0#32
  let v199 : BitVec 1 := Scalar.cmpi .ne v198 c0_i32_140
  let v203 : BitVec 1 := Scalar.andi v202 v199
  let v204 : BitVec 32 := Scalar.addi v198 v197
  let v205 : BitVec 32 := Scalar.select v203 v204 v198
  let c1_i32_161 : BitVec 32 := 1#32
  let v222 : BitVec 32 := Scalar.muli v205 c1_i32_161
  let v223 : BitVec 32 := Scalar.addi c0_i32_162 v222
  v223.toNat
def k0_dev14 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v194 : BitVec 32 := Scalar.addi v2 c1_i32_135
  let c1_i32_136 : BitVec 32 := 1#32
  let v195 : BitVec 32 := Scalar.addi v194 c1_i32_136
  let c8_i32_137 : BitVec 32 := 8#32
  let c0_i32_138 : BitVec 32 := 0#32
  let v196 : BitVec 1 := Scalar.cmpi .eq c8_i32_137 c0_i32_138
  let c1_i32_139 : BitVec 32 := 1#32
  let v197 : BitVec 32 := Scalar.select v196 c1_i32_139 c8_i32_137
  let v198 : BitVec 32 := Scalar.remsi v195 v197
  let c0_i32_141 : BitVec 32 := 0#32
  let v200 : BitVec 1 := Scalar.cmpi .slt v198 c0_i32_141
  let c0_i32_142 : BitVec 32 := 0#32
  let v201 : BitVec 1 := Scalar.cmpi .slt v197 c0_i32_142
  let v202 : BitVec 1 := Scalar.xori v200 v201
  let c0_i32_140 : BitVec 32 := 0#32
  let v199 : BitVec 1 := Scalar.cmpi .ne v198 c0_i32_140
  let v203 : BitVec 1 := Scalar.andi v202 v199
  let v204 : BitVec 32 := Scalar.addi v198 v197
  let v205 : BitVec 32 := Scalar.select v203 v204 v198
  let c1_i32_172 : BitVec 32 := 1#32
  let v234 : BitVec 32 := Scalar.muli v205 c1_i32_172
  let v235 : BitVec 32 := Scalar.addi c0_i32_173 v234
  v235.toNat
def k0_dev15 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_135 : BitVec 32 := 1#32
  let v194 : BitVec 32 := Scalar.addi v2 c1_i32_135
  let c1_i32_136 : BitVec 32 := 1#32
  let v195 : BitVec 32 := Scalar.addi v194 c1_i32_136
  let c8_i32_137 : BitVec 32 := 8#32
  let c0_i32_138 : BitVec 32 := 0#32
  let v196 : BitVec 1 := Scalar.cmpi .eq c8_i32_137 c0_i32_138
  let c1_i32_139 : BitVec 32 := 1#32
  let v197 : BitVec 32 := Scalar.select v196 c1_i32_139 c8_i32_137
  let v198 : BitVec 32 := Scalar.remsi v195 v197
  let c0_i32_141 : BitVec 32 := 0#32
  let v200 : BitVec 1 := Scalar.cmpi .slt v198 c0_i32_141
  let c0_i32_142 : BitVec 32 := 0#32
  let v201 : BitVec 1 := Scalar.cmpi .slt v197 c0_i32_142
  let v202 : BitVec 1 := Scalar.xori v200 v201
  let c0_i32_140 : BitVec 32 := 0#32
  let v199 : BitVec 1 := Scalar.cmpi .ne v198 c0_i32_140
  let v203 : BitVec 1 := Scalar.andi v202 v199
  let v204 : BitVec 32 := Scalar.addi v198 v197
  let v205 : BitVec 32 := Scalar.select v203 v204 v198
  let c1_i32_183 : BitVec 32 := 1#32
  let v246 : BitVec 32 := Scalar.muli v205 c1_i32_183
  let v247 : BitVec 32 := Scalar.addi c0_i32_184 v246
  v247.toNat
def k0_dev16 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v254 : BitVec 32 := Scalar.addi v2 c1_i32_187
  let c2_i32_188 : BitVec 32 := 2#32
  let v255 : BitVec 32 := Scalar.addi v254 c2_i32_188
  let c8_i32_189 : BitVec 32 := 8#32
  let c0_i32_190 : BitVec 32 := 0#32
  let v256 : BitVec 1 := Scalar.cmpi .eq c8_i32_189 c0_i32_190
  let c1_i32_191 : BitVec 32 := 1#32
  let v257 : BitVec 32 := Scalar.select v256 c1_i32_191 c8_i32_189
  let v258 : BitVec 32 := Scalar.remsi v255 v257
  let c0_i32_193 : BitVec 32 := 0#32
  let v260 : BitVec 1 := Scalar.cmpi .slt v258 c0_i32_193
  let c0_i32_194 : BitVec 32 := 0#32
  let v261 : BitVec 1 := Scalar.cmpi .slt v257 c0_i32_194
  let v262 : BitVec 1 := Scalar.xori v260 v261
  let c0_i32_192 : BitVec 32 := 0#32
  let v259 : BitVec 1 := Scalar.cmpi .ne v258 c0_i32_192
  let v263 : BitVec 1 := Scalar.andi v262 v259
  let v264 : BitVec 32 := Scalar.addi v258 v257
  let v265 : BitVec 32 := Scalar.select v263 v264 v258
  let c1_i32_202 : BitVec 32 := 1#32
  let v270 : BitVec 32 := Scalar.muli v265 c1_i32_202
  let v271 : BitVec 32 := Scalar.addi c0_i32_203 v270
  v271.toNat
def k0_dev17 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v254 : BitVec 32 := Scalar.addi v2 c1_i32_187
  let c2_i32_188 : BitVec 32 := 2#32
  let v255 : BitVec 32 := Scalar.addi v254 c2_i32_188
  let c8_i32_189 : BitVec 32 := 8#32
  let c0_i32_190 : BitVec 32 := 0#32
  let v256 : BitVec 1 := Scalar.cmpi .eq c8_i32_189 c0_i32_190
  let c1_i32_191 : BitVec 32 := 1#32
  let v257 : BitVec 32 := Scalar.select v256 c1_i32_191 c8_i32_189
  let v258 : BitVec 32 := Scalar.remsi v255 v257
  let c0_i32_193 : BitVec 32 := 0#32
  let v260 : BitVec 1 := Scalar.cmpi .slt v258 c0_i32_193
  let c0_i32_194 : BitVec 32 := 0#32
  let v261 : BitVec 1 := Scalar.cmpi .slt v257 c0_i32_194
  let v262 : BitVec 1 := Scalar.xori v260 v261
  let c0_i32_192 : BitVec 32 := 0#32
  let v259 : BitVec 1 := Scalar.cmpi .ne v258 c0_i32_192
  let v263 : BitVec 1 := Scalar.andi v262 v259
  let v264 : BitVec 32 := Scalar.addi v258 v257
  let v265 : BitVec 32 := Scalar.select v263 v264 v258
  let c1_i32_213 : BitVec 32 := 1#32
  let v282 : BitVec 32 := Scalar.muli v265 c1_i32_213
  let v283 : BitVec 32 := Scalar.addi c0_i32_214 v282
  v283.toNat
def k0_dev18 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v254 : BitVec 32 := Scalar.addi v2 c1_i32_187
  let c2_i32_188 : BitVec 32 := 2#32
  let v255 : BitVec 32 := Scalar.addi v254 c2_i32_188
  let c8_i32_189 : BitVec 32 := 8#32
  let c0_i32_190 : BitVec 32 := 0#32
  let v256 : BitVec 1 := Scalar.cmpi .eq c8_i32_189 c0_i32_190
  let c1_i32_191 : BitVec 32 := 1#32
  let v257 : BitVec 32 := Scalar.select v256 c1_i32_191 c8_i32_189
  let v258 : BitVec 32 := Scalar.remsi v255 v257
  let c0_i32_193 : BitVec 32 := 0#32
  let v260 : BitVec 1 := Scalar.cmpi .slt v258 c0_i32_193
  let c0_i32_194 : BitVec 32 := 0#32
  let v261 : BitVec 1 := Scalar.cmpi .slt v257 c0_i32_194
  let v262 : BitVec 1 := Scalar.xori v260 v261
  let c0_i32_192 : BitVec 32 := 0#32
  let v259 : BitVec 1 := Scalar.cmpi .ne v258 c0_i32_192
  let v263 : BitVec 1 := Scalar.andi v262 v259
  let v264 : BitVec 32 := Scalar.addi v258 v257
  let v265 : BitVec 32 := Scalar.select v263 v264 v258
  let c1_i32_224 : BitVec 32 := 1#32
  let v294 : BitVec 32 := Scalar.muli v265 c1_i32_224
  let v295 : BitVec 32 := Scalar.addi c0_i32_225 v294
  v295.toNat
def k0_dev19 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v254 : BitVec 32 := Scalar.addi v2 c1_i32_187
  let c2_i32_188 : BitVec 32 := 2#32
  let v255 : BitVec 32 := Scalar.addi v254 c2_i32_188
  let c8_i32_189 : BitVec 32 := 8#32
  let c0_i32_190 : BitVec 32 := 0#32
  let v256 : BitVec 1 := Scalar.cmpi .eq c8_i32_189 c0_i32_190
  let c1_i32_191 : BitVec 32 := 1#32
  let v257 : BitVec 32 := Scalar.select v256 c1_i32_191 c8_i32_189
  let v258 : BitVec 32 := Scalar.remsi v255 v257
  let c0_i32_193 : BitVec 32 := 0#32
  let v260 : BitVec 1 := Scalar.cmpi .slt v258 c0_i32_193
  let c0_i32_194 : BitVec 32 := 0#32
  let v261 : BitVec 1 := Scalar.cmpi .slt v257 c0_i32_194
  let v262 : BitVec 1 := Scalar.xori v260 v261
  let c0_i32_192 : BitVec 32 := 0#32
  let v259 : BitVec 1 := Scalar.cmpi .ne v258 c0_i32_192
  let v263 : BitVec 1 := Scalar.andi v262 v259
  let v264 : BitVec 32 := Scalar.addi v258 v257
  let v265 : BitVec 32 := Scalar.select v263 v264 v258
  let c1_i32_235 : BitVec 32 := 1#32
  let v306 : BitVec 32 := Scalar.muli v265 c1_i32_235
  let v307 : BitVec 32 := Scalar.addi c0_i32_236 v306
  v307.toNat
def k0_dev20 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v314 : BitVec 32 := Scalar.addi v2 c1_i32_239
  let c3_i32_240 : BitVec 32 := 3#32
  let v315 : BitVec 32 := Scalar.addi v314 c3_i32_240
  let c8_i32_241 : BitVec 32 := 8#32
  let c0_i32_242 : BitVec 32 := 0#32
  let v316 : BitVec 1 := Scalar.cmpi .eq c8_i32_241 c0_i32_242
  let c1_i32_243 : BitVec 32 := 1#32
  let v317 : BitVec 32 := Scalar.select v316 c1_i32_243 c8_i32_241
  let v318 : BitVec 32 := Scalar.remsi v315 v317
  let c0_i32_245 : BitVec 32 := 0#32
  let v320 : BitVec 1 := Scalar.cmpi .slt v318 c0_i32_245
  let c0_i32_246 : BitVec 32 := 0#32
  let v321 : BitVec 1 := Scalar.cmpi .slt v317 c0_i32_246
  let v322 : BitVec 1 := Scalar.xori v320 v321
  let c0_i32_244 : BitVec 32 := 0#32
  let v319 : BitVec 1 := Scalar.cmpi .ne v318 c0_i32_244
  let v323 : BitVec 1 := Scalar.andi v322 v319
  let v324 : BitVec 32 := Scalar.addi v318 v317
  let v325 : BitVec 32 := Scalar.select v323 v324 v318
  let c1_i32_254 : BitVec 32 := 1#32
  let v330 : BitVec 32 := Scalar.muli v325 c1_i32_254
  let v331 : BitVec 32 := Scalar.addi c0_i32_255 v330
  v331.toNat
def k0_dev21 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v314 : BitVec 32 := Scalar.addi v2 c1_i32_239
  let c3_i32_240 : BitVec 32 := 3#32
  let v315 : BitVec 32 := Scalar.addi v314 c3_i32_240
  let c8_i32_241 : BitVec 32 := 8#32
  let c0_i32_242 : BitVec 32 := 0#32
  let v316 : BitVec 1 := Scalar.cmpi .eq c8_i32_241 c0_i32_242
  let c1_i32_243 : BitVec 32 := 1#32
  let v317 : BitVec 32 := Scalar.select v316 c1_i32_243 c8_i32_241
  let v318 : BitVec 32 := Scalar.remsi v315 v317
  let c0_i32_245 : BitVec 32 := 0#32
  let v320 : BitVec 1 := Scalar.cmpi .slt v318 c0_i32_245
  let c0_i32_246 : BitVec 32 := 0#32
  let v321 : BitVec 1 := Scalar.cmpi .slt v317 c0_i32_246
  let v322 : BitVec 1 := Scalar.xori v320 v321
  let c0_i32_244 : BitVec 32 := 0#32
  let v319 : BitVec 1 := Scalar.cmpi .ne v318 c0_i32_244
  let v323 : BitVec 1 := Scalar.andi v322 v319
  let v324 : BitVec 32 := Scalar.addi v318 v317
  let v325 : BitVec 32 := Scalar.select v323 v324 v318
  let c1_i32_265 : BitVec 32 := 1#32
  let v342 : BitVec 32 := Scalar.muli v325 c1_i32_265
  let v343 : BitVec 32 := Scalar.addi c0_i32_266 v342
  v343.toNat
def k0_dev22 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v314 : BitVec 32 := Scalar.addi v2 c1_i32_239
  let c3_i32_240 : BitVec 32 := 3#32
  let v315 : BitVec 32 := Scalar.addi v314 c3_i32_240
  let c8_i32_241 : BitVec 32 := 8#32
  let c0_i32_242 : BitVec 32 := 0#32
  let v316 : BitVec 1 := Scalar.cmpi .eq c8_i32_241 c0_i32_242
  let c1_i32_243 : BitVec 32 := 1#32
  let v317 : BitVec 32 := Scalar.select v316 c1_i32_243 c8_i32_241
  let v318 : BitVec 32 := Scalar.remsi v315 v317
  let c0_i32_245 : BitVec 32 := 0#32
  let v320 : BitVec 1 := Scalar.cmpi .slt v318 c0_i32_245
  let c0_i32_246 : BitVec 32 := 0#32
  let v321 : BitVec 1 := Scalar.cmpi .slt v317 c0_i32_246
  let v322 : BitVec 1 := Scalar.xori v320 v321
  let c0_i32_244 : BitVec 32 := 0#32
  let v319 : BitVec 1 := Scalar.cmpi .ne v318 c0_i32_244
  let v323 : BitVec 1 := Scalar.andi v322 v319
  let v324 : BitVec 32 := Scalar.addi v318 v317
  let v325 : BitVec 32 := Scalar.select v323 v324 v318
  let c1_i32_276 : BitVec 32 := 1#32
  let v354 : BitVec 32 := Scalar.muli v325 c1_i32_276
  let v355 : BitVec 32 := Scalar.addi c0_i32_277 v354
  v355.toNat
def k0_dev23 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v314 : BitVec 32 := Scalar.addi v2 c1_i32_239
  let c3_i32_240 : BitVec 32 := 3#32
  let v315 : BitVec 32 := Scalar.addi v314 c3_i32_240
  let c8_i32_241 : BitVec 32 := 8#32
  let c0_i32_242 : BitVec 32 := 0#32
  let v316 : BitVec 1 := Scalar.cmpi .eq c8_i32_241 c0_i32_242
  let c1_i32_243 : BitVec 32 := 1#32
  let v317 : BitVec 32 := Scalar.select v316 c1_i32_243 c8_i32_241
  let v318 : BitVec 32 := Scalar.remsi v315 v317
  let c0_i32_245 : BitVec 32 := 0#32
  let v320 : BitVec 1 := Scalar.cmpi .slt v318 c0_i32_245
  let c0_i32_246 : BitVec 32 := 0#32
  let v321 : BitVec 1 := Scalar.cmpi .slt v317 c0_i32_246
  let v322 : BitVec 1 := Scalar.xori v320 v321
  let c0_i32_244 : BitVec 32 := 0#32
  let v319 : BitVec 1 := Scalar.cmpi .ne v318 c0_i32_244
  let v323 : BitVec 1 := Scalar.andi v322 v319
  let v324 : BitVec 32 := Scalar.addi v318 v317
  let v325 : BitVec 32 := Scalar.select v323 v324 v318
  let c1_i32_287 : BitVec 32 := 1#32
  let v366 : BitVec 32 := Scalar.muli v325 c1_i32_287
  let v367 : BitVec 32 := Scalar.addi c0_i32_288 v366
  v367.toNat
def k0_dev24 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_291 : BitVec 32 := 1#32
  let v374 : BitVec 32 := Scalar.addi v2 c1_i32_291
  let c4_i32_292 : BitVec 32 := 4#32
  let v375 : BitVec 32 := Scalar.addi v374 c4_i32_292
  let c8_i32_293 : BitVec 32 := 8#32
  let c0_i32_294 : BitVec 32 := 0#32
  let v376 : BitVec 1 := Scalar.cmpi .eq c8_i32_293 c0_i32_294
  let c1_i32_295 : BitVec 32 := 1#32
  let v377 : BitVec 32 := Scalar.select v376 c1_i32_295 c8_i32_293
  let v378 : BitVec 32 := Scalar.remsi v375 v377
  let c0_i32_297 : BitVec 32 := 0#32
  let v380 : BitVec 1 := Scalar.cmpi .slt v378 c0_i32_297
  let c0_i32_298 : BitVec 32 := 0#32
  let v381 : BitVec 1 := Scalar.cmpi .slt v377 c0_i32_298
  let v382 : BitVec 1 := Scalar.xori v380 v381
  let c0_i32_296 : BitVec 32 := 0#32
  let v379 : BitVec 1 := Scalar.cmpi .ne v378 c0_i32_296
  let v383 : BitVec 1 := Scalar.andi v382 v379
  let v384 : BitVec 32 := Scalar.addi v378 v377
  let v385 : BitVec 32 := Scalar.select v383 v384 v378
  let c1_i32_306 : BitVec 32 := 1#32
  let v390 : BitVec 32 := Scalar.muli v385 c1_i32_306
  let v391 : BitVec 32 := Scalar.addi c0_i32_307 v390
  v391.toNat
def k0_dev25 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_291 : BitVec 32 := 1#32
  let v374 : BitVec 32 := Scalar.addi v2 c1_i32_291
  let c4_i32_292 : BitVec 32 := 4#32
  let v375 : BitVec 32 := Scalar.addi v374 c4_i32_292
  let c8_i32_293 : BitVec 32 := 8#32
  let c0_i32_294 : BitVec 32 := 0#32
  let v376 : BitVec 1 := Scalar.cmpi .eq c8_i32_293 c0_i32_294
  let c1_i32_295 : BitVec 32 := 1#32
  let v377 : BitVec 32 := Scalar.select v376 c1_i32_295 c8_i32_293
  let v378 : BitVec 32 := Scalar.remsi v375 v377
  let c0_i32_297 : BitVec 32 := 0#32
  let v380 : BitVec 1 := Scalar.cmpi .slt v378 c0_i32_297
  let c0_i32_298 : BitVec 32 := 0#32
  let v381 : BitVec 1 := Scalar.cmpi .slt v377 c0_i32_298
  let v382 : BitVec 1 := Scalar.xori v380 v381
  let c0_i32_296 : BitVec 32 := 0#32
  let v379 : BitVec 1 := Scalar.cmpi .ne v378 c0_i32_296
  let v383 : BitVec 1 := Scalar.andi v382 v379
  let v384 : BitVec 32 := Scalar.addi v378 v377
  let v385 : BitVec 32 := Scalar.select v383 v384 v378
  let c1_i32_317 : BitVec 32 := 1#32
  let v402 : BitVec 32 := Scalar.muli v385 c1_i32_317
  let v403 : BitVec 32 := Scalar.addi c0_i32_318 v402
  v403.toNat
def k0_dev26 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_291 : BitVec 32 := 1#32
  let v374 : BitVec 32 := Scalar.addi v2 c1_i32_291
  let c4_i32_292 : BitVec 32 := 4#32
  let v375 : BitVec 32 := Scalar.addi v374 c4_i32_292
  let c8_i32_293 : BitVec 32 := 8#32
  let c0_i32_294 : BitVec 32 := 0#32
  let v376 : BitVec 1 := Scalar.cmpi .eq c8_i32_293 c0_i32_294
  let c1_i32_295 : BitVec 32 := 1#32
  let v377 : BitVec 32 := Scalar.select v376 c1_i32_295 c8_i32_293
  let v378 : BitVec 32 := Scalar.remsi v375 v377
  let c0_i32_297 : BitVec 32 := 0#32
  let v380 : BitVec 1 := Scalar.cmpi .slt v378 c0_i32_297
  let c0_i32_298 : BitVec 32 := 0#32
  let v381 : BitVec 1 := Scalar.cmpi .slt v377 c0_i32_298
  let v382 : BitVec 1 := Scalar.xori v380 v381
  let c0_i32_296 : BitVec 32 := 0#32
  let v379 : BitVec 1 := Scalar.cmpi .ne v378 c0_i32_296
  let v383 : BitVec 1 := Scalar.andi v382 v379
  let v384 : BitVec 32 := Scalar.addi v378 v377
  let v385 : BitVec 32 := Scalar.select v383 v384 v378
  let c1_i32_328 : BitVec 32 := 1#32
  let v414 : BitVec 32 := Scalar.muli v385 c1_i32_328
  let v415 : BitVec 32 := Scalar.addi c0_i32_329 v414
  v415.toNat
def k0_dev27 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_291 : BitVec 32 := 1#32
  let v374 : BitVec 32 := Scalar.addi v2 c1_i32_291
  let c4_i32_292 : BitVec 32 := 4#32
  let v375 : BitVec 32 := Scalar.addi v374 c4_i32_292
  let c8_i32_293 : BitVec 32 := 8#32
  let c0_i32_294 : BitVec 32 := 0#32
  let v376 : BitVec 1 := Scalar.cmpi .eq c8_i32_293 c0_i32_294
  let c1_i32_295 : BitVec 32 := 1#32
  let v377 : BitVec 32 := Scalar.select v376 c1_i32_295 c8_i32_293
  let v378 : BitVec 32 := Scalar.remsi v375 v377
  let c0_i32_297 : BitVec 32 := 0#32
  let v380 : BitVec 1 := Scalar.cmpi .slt v378 c0_i32_297
  let c0_i32_298 : BitVec 32 := 0#32
  let v381 : BitVec 1 := Scalar.cmpi .slt v377 c0_i32_298
  let v382 : BitVec 1 := Scalar.xori v380 v381
  let c0_i32_296 : BitVec 32 := 0#32
  let v379 : BitVec 1 := Scalar.cmpi .ne v378 c0_i32_296
  let v383 : BitVec 1 := Scalar.andi v382 v379
  let v384 : BitVec 32 := Scalar.addi v378 v377
  let v385 : BitVec 32 := Scalar.select v383 v384 v378
  let c1_i32_339 : BitVec 32 := 1#32
  let v426 : BitVec 32 := Scalar.muli v385 c1_i32_339
  let v427 : BitVec 32 := Scalar.addi c0_i32_340 v426
  v427.toNat
def k0_dev28 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_343 : BitVec 32 := 1#32
  let v434 : BitVec 32 := Scalar.addi v2 c1_i32_343
  let c5_i32_344 : BitVec 32 := 5#32
  let v435 : BitVec 32 := Scalar.addi v434 c5_i32_344
  let c8_i32_345 : BitVec 32 := 8#32
  let c0_i32_346 : BitVec 32 := 0#32
  let v436 : BitVec 1 := Scalar.cmpi .eq c8_i32_345 c0_i32_346
  let c1_i32_347 : BitVec 32 := 1#32
  let v437 : BitVec 32 := Scalar.select v436 c1_i32_347 c8_i32_345
  let v438 : BitVec 32 := Scalar.remsi v435 v437
  let c0_i32_349 : BitVec 32 := 0#32
  let v440 : BitVec 1 := Scalar.cmpi .slt v438 c0_i32_349
  let c0_i32_350 : BitVec 32 := 0#32
  let v441 : BitVec 1 := Scalar.cmpi .slt v437 c0_i32_350
  let v442 : BitVec 1 := Scalar.xori v440 v441
  let c0_i32_348 : BitVec 32 := 0#32
  let v439 : BitVec 1 := Scalar.cmpi .ne v438 c0_i32_348
  let v443 : BitVec 1 := Scalar.andi v442 v439
  let v444 : BitVec 32 := Scalar.addi v438 v437
  let v445 : BitVec 32 := Scalar.select v443 v444 v438
  let c1_i32_358 : BitVec 32 := 1#32
  let v450 : BitVec 32 := Scalar.muli v445 c1_i32_358
  let v451 : BitVec 32 := Scalar.addi c0_i32_359 v450
  v451.toNat
def k0_dev29 (d0 : Dev nD) : Nat :=
  let c0_i32_370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_343 : BitVec 32 := 1#32
  let v434 : BitVec 32 := Scalar.addi v2 c1_i32_343
  let c5_i32_344 : BitVec 32 := 5#32
  let v435 : BitVec 32 := Scalar.addi v434 c5_i32_344
  let c8_i32_345 : BitVec 32 := 8#32
  let c0_i32_346 : BitVec 32 := 0#32
  let v436 : BitVec 1 := Scalar.cmpi .eq c8_i32_345 c0_i32_346
  let c1_i32_347 : BitVec 32 := 1#32
  let v437 : BitVec 32 := Scalar.select v436 c1_i32_347 c8_i32_345
  let v438 : BitVec 32 := Scalar.remsi v435 v437
  let c0_i32_349 : BitVec 32 := 0#32
  let v440 : BitVec 1 := Scalar.cmpi .slt v438 c0_i32_349
  let c0_i32_350 : BitVec 32 := 0#32
  let v441 : BitVec 1 := Scalar.cmpi .slt v437 c0_i32_350
  let v442 : BitVec 1 := Scalar.xori v440 v441
  let c0_i32_348 : BitVec 32 := 0#32
  let v439 : BitVec 1 := Scalar.cmpi .ne v438 c0_i32_348
  let v443 : BitVec 1 := Scalar.andi v442 v439
  let v444 : BitVec 32 := Scalar.addi v438 v437
  let v445 : BitVec 32 := Scalar.select v443 v444 v438
  let c1_i32_369 : BitVec 32 := 1#32
  let v462 : BitVec 32 := Scalar.muli v445 c1_i32_369
  let v463 : BitVec 32 := Scalar.addi c0_i32_370 v462
  v463.toNat
def k0_dev30 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_343 : BitVec 32 := 1#32
  let v434 : BitVec 32 := Scalar.addi v2 c1_i32_343
  let c5_i32_344 : BitVec 32 := 5#32
  let v435 : BitVec 32 := Scalar.addi v434 c5_i32_344
  let c8_i32_345 : BitVec 32 := 8#32
  let c0_i32_346 : BitVec 32 := 0#32
  let v436 : BitVec 1 := Scalar.cmpi .eq c8_i32_345 c0_i32_346
  let c1_i32_347 : BitVec 32 := 1#32
  let v437 : BitVec 32 := Scalar.select v436 c1_i32_347 c8_i32_345
  let v438 : BitVec 32 := Scalar.remsi v435 v437
  let c0_i32_349 : BitVec 32 := 0#32
  let v440 : BitVec 1 := Scalar.cmpi .slt v438 c0_i32_349
  let c0_i32_350 : BitVec 32 := 0#32
  let v441 : BitVec 1 := Scalar.cmpi .slt v437 c0_i32_350
  let v442 : BitVec 1 := Scalar.xori v440 v441
  let c0_i32_348 : BitVec 32 := 0#32
  let v439 : BitVec 1 := Scalar.cmpi .ne v438 c0_i32_348
  let v443 : BitVec 1 := Scalar.andi v442 v439
  let v444 : BitVec 32 := Scalar.addi v438 v437
  let v445 : BitVec 32 := Scalar.select v443 v444 v438
  let c1_i32_380 : BitVec 32 := 1#32
  let v474 : BitVec 32 := Scalar.muli v445 c1_i32_380
  let v475 : BitVec 32 := Scalar.addi c0_i32_381 v474
  v475.toNat
def k0_dev31 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_343 : BitVec 32 := 1#32
  let v434 : BitVec 32 := Scalar.addi v2 c1_i32_343
  let c5_i32_344 : BitVec 32 := 5#32
  let v435 : BitVec 32 := Scalar.addi v434 c5_i32_344
  let c8_i32_345 : BitVec 32 := 8#32
  let c0_i32_346 : BitVec 32 := 0#32
  let v436 : BitVec 1 := Scalar.cmpi .eq c8_i32_345 c0_i32_346
  let c1_i32_347 : BitVec 32 := 1#32
  let v437 : BitVec 32 := Scalar.select v436 c1_i32_347 c8_i32_345
  let v438 : BitVec 32 := Scalar.remsi v435 v437
  let c0_i32_349 : BitVec 32 := 0#32
  let v440 : BitVec 1 := Scalar.cmpi .slt v438 c0_i32_349
  let c0_i32_350 : BitVec 32 := 0#32
  let v441 : BitVec 1 := Scalar.cmpi .slt v437 c0_i32_350
  let v442 : BitVec 1 := Scalar.xori v440 v441
  let c0_i32_348 : BitVec 32 := 0#32
  let v439 : BitVec 1 := Scalar.cmpi .ne v438 c0_i32_348
  let v443 : BitVec 1 := Scalar.andi v442 v439
  let v444 : BitVec 32 := Scalar.addi v438 v437
  let v445 : BitVec 32 := Scalar.select v443 v444 v438
  let c1_i32_391 : BitVec 32 := 1#32
  let v486 : BitVec 32 := Scalar.muli v445 c1_i32_391
  let v487 : BitVec 32 := Scalar.addi c0_i32_392 v486
  v487.toNat
def k0_dev32 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_395 : BitVec 32 := 1#32
  let v494 : BitVec 32 := Scalar.addi v2 c1_i32_395
  let c6_i32_396 : BitVec 32 := 6#32
  let v495 : BitVec 32 := Scalar.addi v494 c6_i32_396
  let c8_i32_397 : BitVec 32 := 8#32
  let c0_i32_398 : BitVec 32 := 0#32
  let v496 : BitVec 1 := Scalar.cmpi .eq c8_i32_397 c0_i32_398
  let c1_i32_399 : BitVec 32 := 1#32
  let v497 : BitVec 32 := Scalar.select v496 c1_i32_399 c8_i32_397
  let v498 : BitVec 32 := Scalar.remsi v495 v497
  let c0_i32_401 : BitVec 32 := 0#32
  let v500 : BitVec 1 := Scalar.cmpi .slt v498 c0_i32_401
  let c0_i32_402 : BitVec 32 := 0#32
  let v501 : BitVec 1 := Scalar.cmpi .slt v497 c0_i32_402
  let v502 : BitVec 1 := Scalar.xori v500 v501
  let c0_i32_400 : BitVec 32 := 0#32
  let v499 : BitVec 1 := Scalar.cmpi .ne v498 c0_i32_400
  let v503 : BitVec 1 := Scalar.andi v502 v499
  let v504 : BitVec 32 := Scalar.addi v498 v497
  let v505 : BitVec 32 := Scalar.select v503 v504 v498
  let c1_i32_410 : BitVec 32 := 1#32
  let v510 : BitVec 32 := Scalar.muli v505 c1_i32_410
  let v511 : BitVec 32 := Scalar.addi c0_i32_411 v510
  v511.toNat
def k0_dev33 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_395 : BitVec 32 := 1#32
  let v494 : BitVec 32 := Scalar.addi v2 c1_i32_395
  let c6_i32_396 : BitVec 32 := 6#32
  let v495 : BitVec 32 := Scalar.addi v494 c6_i32_396
  let c8_i32_397 : BitVec 32 := 8#32
  let c0_i32_398 : BitVec 32 := 0#32
  let v496 : BitVec 1 := Scalar.cmpi .eq c8_i32_397 c0_i32_398
  let c1_i32_399 : BitVec 32 := 1#32
  let v497 : BitVec 32 := Scalar.select v496 c1_i32_399 c8_i32_397
  let v498 : BitVec 32 := Scalar.remsi v495 v497
  let c0_i32_401 : BitVec 32 := 0#32
  let v500 : BitVec 1 := Scalar.cmpi .slt v498 c0_i32_401
  let c0_i32_402 : BitVec 32 := 0#32
  let v501 : BitVec 1 := Scalar.cmpi .slt v497 c0_i32_402
  let v502 : BitVec 1 := Scalar.xori v500 v501
  let c0_i32_400 : BitVec 32 := 0#32
  let v499 : BitVec 1 := Scalar.cmpi .ne v498 c0_i32_400
  let v503 : BitVec 1 := Scalar.andi v502 v499
  let v504 : BitVec 32 := Scalar.addi v498 v497
  let v505 : BitVec 32 := Scalar.select v503 v504 v498
  let c1_i32_421 : BitVec 32 := 1#32
  let v522 : BitVec 32 := Scalar.muli v505 c1_i32_421
  let v523 : BitVec 32 := Scalar.addi c0_i32_422 v522
  v523.toNat
def k0_dev34 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_395 : BitVec 32 := 1#32
  let v494 : BitVec 32 := Scalar.addi v2 c1_i32_395
  let c6_i32_396 : BitVec 32 := 6#32
  let v495 : BitVec 32 := Scalar.addi v494 c6_i32_396
  let c8_i32_397 : BitVec 32 := 8#32
  let c0_i32_398 : BitVec 32 := 0#32
  let v496 : BitVec 1 := Scalar.cmpi .eq c8_i32_397 c0_i32_398
  let c1_i32_399 : BitVec 32 := 1#32
  let v497 : BitVec 32 := Scalar.select v496 c1_i32_399 c8_i32_397
  let v498 : BitVec 32 := Scalar.remsi v495 v497
  let c0_i32_401 : BitVec 32 := 0#32
  let v500 : BitVec 1 := Scalar.cmpi .slt v498 c0_i32_401
  let c0_i32_402 : BitVec 32 := 0#32
  let v501 : BitVec 1 := Scalar.cmpi .slt v497 c0_i32_402
  let v502 : BitVec 1 := Scalar.xori v500 v501
  let c0_i32_400 : BitVec 32 := 0#32
  let v499 : BitVec 1 := Scalar.cmpi .ne v498 c0_i32_400
  let v503 : BitVec 1 := Scalar.andi v502 v499
  let v504 : BitVec 32 := Scalar.addi v498 v497
  let v505 : BitVec 32 := Scalar.select v503 v504 v498
  let c1_i32_432 : BitVec 32 := 1#32
  let v534 : BitVec 32 := Scalar.muli v505 c1_i32_432
  let v535 : BitVec 32 := Scalar.addi c0_i32_433 v534
  v535.toNat
def k0_dev35 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_395 : BitVec 32 := 1#32
  let v494 : BitVec 32 := Scalar.addi v2 c1_i32_395
  let c6_i32_396 : BitVec 32 := 6#32
  let v495 : BitVec 32 := Scalar.addi v494 c6_i32_396
  let c8_i32_397 : BitVec 32 := 8#32
  let c0_i32_398 : BitVec 32 := 0#32
  let v496 : BitVec 1 := Scalar.cmpi .eq c8_i32_397 c0_i32_398
  let c1_i32_399 : BitVec 32 := 1#32
  let v497 : BitVec 32 := Scalar.select v496 c1_i32_399 c8_i32_397
  let v498 : BitVec 32 := Scalar.remsi v495 v497
  let c0_i32_401 : BitVec 32 := 0#32
  let v500 : BitVec 1 := Scalar.cmpi .slt v498 c0_i32_401
  let c0_i32_402 : BitVec 32 := 0#32
  let v501 : BitVec 1 := Scalar.cmpi .slt v497 c0_i32_402
  let v502 : BitVec 1 := Scalar.xori v500 v501
  let c0_i32_400 : BitVec 32 := 0#32
  let v499 : BitVec 1 := Scalar.cmpi .ne v498 c0_i32_400
  let v503 : BitVec 1 := Scalar.andi v502 v499
  let v504 : BitVec 32 := Scalar.addi v498 v497
  let v505 : BitVec 32 := Scalar.select v503 v504 v498
  let c1_i32_443 : BitVec 32 := 1#32
  let v546 : BitVec 32 := Scalar.muli v505 c1_i32_443
  let v547 : BitVec 32 := Scalar.addi c0_i32_444 v546
  v547.toNat
def k0_off7 (d0 : Dev nD) (c0_i32_452 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_451 : BitVec 32 := 1#32
  let v559 : BitVec 32 := Scalar.addi v2 c1_i32_451
  let v560 : BitVec 32 := Scalar.addi v559 c0_i32_452
  let c8_i32_453 : BitVec 32 := 8#32
  let c0_i32_454 : BitVec 32 := 0#32
  let v561 : BitVec 1 := Scalar.cmpi .eq c8_i32_453 c0_i32_454
  let c1_i32_455 : BitVec 32 := 1#32
  let v562 : BitVec 32 := Scalar.select v561 c1_i32_455 c8_i32_453
  let v563 : BitVec 32 := Scalar.remsi v560 v562
  let c0_i32_457 : BitVec 32 := 0#32
  let v565 : BitVec 1 := Scalar.cmpi .slt v563 c0_i32_457
  let c0_i32_458 : BitVec 32 := 0#32
  let v566 : BitVec 1 := Scalar.cmpi .slt v562 c0_i32_458
  let v567 : BitVec 1 := Scalar.xori v565 v566
  let c0_i32_456 : BitVec 32 := 0#32
  let v564 : BitVec 1 := Scalar.cmpi .ne v563 c0_i32_456
  let v568 : BitVec 1 := Scalar.andi v567 v564
  let v569 : BitVec 32 := Scalar.addi v563 v562
  let v570 : BitVec 32 := Scalar.select v568 v569 v563
  let c0_i32_463 : BitVec 32 := 0#32
  ![v570.toNat, 0]
def k0_off8 (d0 : Dev nD) (c0_i32_462 : BitVec 32) (c0_i32_452 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_451 : BitVec 32 := 1#32
  let v559 : BitVec 32 := Scalar.addi v2 c1_i32_451
  let v560 : BitVec 32 := Scalar.addi v559 c0_i32_452
  let c8_i32_453 : BitVec 32 := 8#32
  let c0_i32_454 : BitVec 32 := 0#32
  let v561 : BitVec 1 := Scalar.cmpi .eq c8_i32_453 c0_i32_454
  let c1_i32_455 : BitVec 32 := 1#32
  let v562 : BitVec 32 := Scalar.select v561 c1_i32_455 c8_i32_453
  let v563 : BitVec 32 := Scalar.remsi v560 v562
  let c0_i32_457 : BitVec 32 := 0#32
  let v565 : BitVec 1 := Scalar.cmpi .slt v563 c0_i32_457
  let c0_i32_458 : BitVec 32 := 0#32
  let v566 : BitVec 1 := Scalar.cmpi .slt v562 c0_i32_458
  let v567 : BitVec 1 := Scalar.xori v565 v566
  let c0_i32_456 : BitVec 32 := 0#32
  let v564 : BitVec 1 := Scalar.cmpi .ne v563 c0_i32_456
  let v568 : BitVec 1 := Scalar.andi v567 v564
  let v569 : BitVec 32 := Scalar.addi v563 v562
  let v570 : BitVec 32 := Scalar.select v568 v569 v563
  let c128_i32_461 : BitVec 32 := 128#32
  let v573 : BitVec 32 := Scalar.muli v570 c128_i32_461
  let v574 : BitVec 32 := Scalar.addi c0_i32_462 v573
  let c0_i32_468 : BitVec 32 := 0#32
  ![v574.toNat, 0]
def k0_off9 (d0 : Dev nD) (c0_i32_452 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_451 : BitVec 32 := 1#32
  let v559 : BitVec 32 := Scalar.addi v2 c1_i32_451
  let v560 : BitVec 32 := Scalar.addi v559 c0_i32_452
  let c8_i32_453 : BitVec 32 := 8#32
  let c0_i32_454 : BitVec 32 := 0#32
  let v561 : BitVec 1 := Scalar.cmpi .eq c8_i32_453 c0_i32_454
  let c1_i32_455 : BitVec 32 := 1#32
  let v562 : BitVec 32 := Scalar.select v561 c1_i32_455 c8_i32_453
  let v563 : BitVec 32 := Scalar.remsi v560 v562
  let c0_i32_457 : BitVec 32 := 0#32
  let v565 : BitVec 1 := Scalar.cmpi .slt v563 c0_i32_457
  let c0_i32_458 : BitVec 32 := 0#32
  let v566 : BitVec 1 := Scalar.cmpi .slt v562 c0_i32_458
  let v567 : BitVec 1 := Scalar.xori v565 v566
  let c0_i32_456 : BitVec 32 := 0#32
  let v564 : BitVec 1 := Scalar.cmpi .ne v563 c0_i32_456
  let v568 : BitVec 1 := Scalar.andi v567 v564
  let v569 : BitVec 32 := Scalar.addi v563 v562
  let v570 : BitVec 32 := Scalar.select v568 v569 v563
  let c1_i32_474 : BitVec 32 := 1#32
  ![v570.toNat, 1]
def k0_off10 (d0 : Dev nD) (c0_i32_452 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_451 : BitVec 32 := 1#32
  let v559 : BitVec 32 := Scalar.addi v2 c1_i32_451
  let v560 : BitVec 32 := Scalar.addi v559 c0_i32_452
  let c8_i32_453 : BitVec 32 := 8#32
  let c0_i32_454 : BitVec 32 := 0#32
  let v561 : BitVec 1 := Scalar.cmpi .eq c8_i32_453 c0_i32_454
  let c1_i32_455 : BitVec 32 := 1#32
  let v562 : BitVec 32 := Scalar.select v561 c1_i32_455 c8_i32_453
  let v563 : BitVec 32 := Scalar.remsi v560 v562
  let c0_i32_457 : BitVec 32 := 0#32
  let v565 : BitVec 1 := Scalar.cmpi .slt v563 c0_i32_457
  let c0_i32_458 : BitVec 32 := 0#32
  let v566 : BitVec 1 := Scalar.cmpi .slt v562 c0_i32_458
  let v567 : BitVec 1 := Scalar.xori v565 v566
  let c0_i32_456 : BitVec 32 := 0#32
  let v564 : BitVec 1 := Scalar.cmpi .ne v563 c0_i32_456
  let v568 : BitVec 1 := Scalar.andi v567 v564
  let v569 : BitVec 32 := Scalar.addi v563 v562
  let v570 : BitVec 32 := Scalar.select v568 v569 v563
  let c2_i32_485 : BitVec 32 := 2#32
  ![v570.toNat, 2]
def k0_off11 (d0 : Dev nD) (c0_i32_452 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_451 : BitVec 32 := 1#32
  let v559 : BitVec 32 := Scalar.addi v2 c1_i32_451
  let v560 : BitVec 32 := Scalar.addi v559 c0_i32_452
  let c8_i32_453 : BitVec 32 := 8#32
  let c0_i32_454 : BitVec 32 := 0#32
  let v561 : BitVec 1 := Scalar.cmpi .eq c8_i32_453 c0_i32_454
  let c1_i32_455 : BitVec 32 := 1#32
  let v562 : BitVec 32 := Scalar.select v561 c1_i32_455 c8_i32_453
  let v563 : BitVec 32 := Scalar.remsi v560 v562
  let c0_i32_457 : BitVec 32 := 0#32
  let v565 : BitVec 1 := Scalar.cmpi .slt v563 c0_i32_457
  let c0_i32_458 : BitVec 32 := 0#32
  let v566 : BitVec 1 := Scalar.cmpi .slt v562 c0_i32_458
  let v567 : BitVec 1 := Scalar.xori v565 v566
  let c0_i32_456 : BitVec 32 := 0#32
  let v564 : BitVec 1 := Scalar.cmpi .ne v563 c0_i32_456
  let v568 : BitVec 1 := Scalar.andi v567 v564
  let v569 : BitVec 32 := Scalar.addi v563 v562
  let v570 : BitVec 32 := Scalar.select v568 v569 v563
  let c3_i32_496 : BitVec 32 := 3#32
  ![v570.toNat, 3]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x1024x2x64 : Shape := ⟨4, ![2, 1024, 2, 64]⟩
abbrev S2x128x8x64 : Shape := ⟨4, ![2, 128, 8, 64]⟩
abbrev S2x1024x2x4x64 : Shape := ⟨5, ![2, 1024, 2, 4, 64]⟩
abbrev S2x1024x8x64 : Shape := ⟨4, ![2, 1024, 8, 64]⟩
abbrev S_ : Shape := ⟨0, ![]⟩
abbrev S2x8x128x1 : Shape := ⟨4, ![2, 8, 128, 1]⟩
abbrev S2x8x128x1024 : Shape := ⟨4, ![2, 8, 128, 1024]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 46
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x1024x2x64, .f32⟩
  | .hbm, ⟨3, _⟩ => ⟨S2x1024x2x64, .f32⟩
  | .hbm, ⟨4, _⟩ => ⟨S512x512, .f32⟩
  | .hbm, ⟨5, _⟩ => ⟨S2x128x512, .f32⟩
  | .hbm, ⟨6, _⟩ => ⟨S2x128x8x64, .f32⟩
  | .hbm, ⟨7, _⟩ => ⟨S2x1024x2x4x64, .f32⟩
  | .hbm, ⟨8, _⟩ => ⟨S2x1024x8x64, .f32⟩
  | .hbm, ⟨9, _⟩ => ⟨S2x1024x2x4x64, .f32⟩
  | .hbm, ⟨10, _⟩ => ⟨S2x1024x8x64, .f32⟩
  | .hbm, ⟨11, _⟩ => ⟨S_, .f32⟩
  | .hbm, ⟨12, _⟩ => ⟨S2x128x8x64, .f32⟩
  | .hbm, ⟨13, _⟩ => ⟨S_, .f32⟩
  | .hbm, ⟨14, _⟩ => ⟨S2x8x128x1, .f32⟩
  | .hbm, ⟨15, _⟩ => ⟨S_, .f32⟩
  | .hbm, ⟨16, _⟩ => ⟨S2x8x128x1, .f32⟩
  | .hbm, ⟨17, _⟩ => ⟨S2x8x128x1024, .f32⟩
  | .hbm, ⟨18, _⟩ => ⟨S_, .f32⟩
  | .hbm, ⟨19, _⟩ => ⟨S2x8x128x1024, .f32⟩
  | .hbm, ⟨20, _⟩ => ⟨S2x8x128x1024, .f32⟩
  | .hbm, ⟨21, _⟩ => ⟨S_, .f32⟩
  | .hbm, ⟨22, _⟩ => ⟨S2x8x128, .f32⟩
  | .hbm, ⟨23, _⟩ => ⟨S2x8x128x1, .f32⟩
  | .hbm, ⟨24, _⟩ => ⟨S2x8x128x1, .f32⟩
  | .hbm, ⟨25, _⟩ => ⟨S2x8x128x1, .f32⟩
  | .hbm, ⟨26, _⟩ => ⟨S2x8x128x1, .f32⟩
  | .hbm, ⟨27, _⟩ => ⟨S2x8x128x1024, .f32⟩
  | .hbm, ⟨28, _⟩ => ⟨S2x8x128x1024, .f32⟩
  | .hbm, ⟨29, _⟩ => ⟨S2x8x128x1024, .f32⟩
  | .hbm, ⟨30, _⟩ => ⟨S2x8x128x1, .f32⟩
  | .hbm, ⟨31, _⟩ => ⟨S_, .f32⟩
  | .hbm, ⟨32, _⟩ => ⟨S2x8x128, .f32⟩
  | .hbm, ⟨33, _⟩ => ⟨S2x8x128x1, .f32⟩
  | .hbm, ⟨34, _⟩ => ⟨S2x8x128x1, .f32⟩
  | .hbm, ⟨35, _⟩ => ⟨S2x128x8x1, .f32⟩
  | .hbm, ⟨36, _⟩ => ⟨S2x128x8x64, .f32⟩
  | .hbm, ⟨37, _⟩ => ⟨S2x128x8x64, .f32⟩
  | .hbm, ⟨38, _⟩ => ⟨S2x8x64x128, .f32⟩
  | .hbm, ⟨39, _⟩ => ⟨S2x128x8x64, .f32⟩
  | .hbm, ⟨40, _⟩ => ⟨S2x128x8x64, .f32⟩
  | .hbm, ⟨41, _⟩ => ⟨S2x128x8x1, .f32⟩
  | .hbm, ⟨42, _⟩ => ⟨S2x128x8x64, .f32⟩
  | .hbm, ⟨43, _⟩ => ⟨S2x128x8x64, .f32⟩
  | .hbm, ⟨44, _⟩ => ⟨S2x128x512, .f32⟩
  | .hbm, ⟨45, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Proto.lean ====
/-
  The protocol of the gather, for `KernelIdeal`.

  Eight devices hold a buffer of 4096 rows each, 1024 rows for each of four blocks (the keys of the two batch entries, then the
  values), and in each block 128 rows for each device.  Every device raises the barrier semaphore of the seven others and waits
  for seven raises, writes its own 128 rows of the four blocks, and copies each of them to the seven others.

  Every device ends with the same contents `G`, so every payload below is stated at `G`.
-/
module

public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Transfers
public import Idealize.ShloMosaic.Lib.Pipeline.RegionTalk
public import Idealize.ShloMosaic.Harness.Basic

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareDrop shareTok)

variable {F : FTy → Type} [FloatOps F]

/-! ## The resource algebra: the pipeline library's copy and the protocol's -/

/-- A cell's duties are numbered by the seven other devices; a transfer cell has the duty 0 only. -/
abbrev D : Type := Fin 7
abbrev UU : Type := UR sig nD τ × URounds (GSem nD τ sig) D
local notation "𝕄" => MT nD τ sig Unit (Elt F) ℕ UU ℕ
abbrev EP : Emb (UR sig nD τ) (MT nD τ sig Unit (Elt F) ℕ UU ℕ) := embL
abbrev ER : Emb (URounds (GSem nD τ sig) D) (MT nD τ sig Unit (Elt F) ℕ UU ℕ) := embR
abbrev 𝒱₀ : Variants := Variants.none

/-! ## Devices and jobs -/

/-- The device `j + 1` places after `c` around the ring of eight. -/
def peer (c : Dev nD) (j : Fin 7) : Dev nD := ⟨(c.val + 1 + j.val) % 8, Nat.mod_lt _ (by decide)⟩
theorem peer_rev : ∀ (c : Dev nD) (j : Fin 7), peer (peer c j) j.rev = c := by decide
theorem peer_ne : ∀ (c : Dev nD) (j : Fin 7), peer c j ≠ c := by decide
theorem peer_inj : ∀ (c : Dev nD) (i j : Fin 7), peer c i = peer c j → i = j := by decide

/-- A device and an offset, sent to the device there and the offset back: its own inverse. -/
def swap : Dev nD × Fin 7 ≃ Dev nD × Fin 7 where
  toFun p := (peer p.1 p.2, p.2.rev)
  invFun p := (peer p.1 p.2, p.2.rev)
  left_inv p := by simp only [peer_rev, Fin.rev_rev]
  right_inv p := by simp only [peer_rev, Fin.rev_rev]

/-- Of the 28 copies a device issues, number `k` goes to the `k / 4`-th other device and carries block `k % 4`. -/
def jj (k : Fin 28) : Fin 7 := ⟨k.val / 4, by omega⟩
def bb (k : Fin 28) : Fin 4 := ⟨k.val % 4, Nat.mod_lt _ (by decide)⟩

/-! ## Cells -/

abbrev barS : Sem sig := sig.barrier 0 rfl
def sndS (k : Fin 28) : DmaSem sig := ⟨5 + k.val, by have := k.isLt; show 5 + k.val < 65; omega⟩
def rcvS (s : Dev nD) (b : Fin 4) : DmaSem sig :=
  ⟨33 + 4 * s.val + b.val, by have := s.isLt; have := b.isLt; show 33 + 4 * s.val + b.val < 65; simp only [nD] at *; omega⟩

abbrev barCell (c : Dev nD) : GSem nD τ sig := ((c : Thread nD τ), .reg barS)
abbrev sndCell (c : Dev nD) (k : Fin 28) : GSem nD τ sig := ((c : Thread nD τ), .dma (sndS k))
abbrev rcvCell (c s : Dev nD) (b : Fin 4) : GSem nD τ sig := ((c : Thread nD τ), .dma (rcvS s b))

/-! ## The gather buffer and its 32 slots -/

abbrev SM : Memref sig .tc .vmem S4096x128 .f32 := Memref.whole cc0_scratch0

theorem slot_inb (s : Dev nD) (b : Fin 4) :
    ∀ a, (![1024 * b.val + 128 * s.val, 0] : Fin 2 → ℕ) a + S128x128.size a ≤ S4096x128.size a := by
  revert s b; decide +kernel

/-- The 128 rows of device `s` in block `b`. -/
abbrev slotR (s : Dev nD) (b : Fin 4) : Rect S4096x128 :=
  Rect.unit (s := S4096x128) ![1024 * b.val + 128 * s.val, 0] S128x128.size (slot_inb s b)
abbrev slotM (s : Dev nD) (b : Fin 4) : Memref sig .tc .vmem S128x128 .f32 := SM.slice (slotR s b) (fun _ => rfl)

/-- What a copy of one slot credits. -/
abbrev N : ℕ := (slotM 0 0).view.dmaCredit
theorem N_pos : 0 < N := View.dmaCredit_pos _ (by decide)

/-- Contents of the gather buffer. -/
abbrev GBuf (F : FTy → Type) : Type := (cc0_scratch0 : Ref sig .tc).ty.Contents (Elt F)

/-- Device `d`'s slot of device `s` and block `b`, held at the share `q` with contents `f`. -/
def slotPt (d s : Dev nD) (b : Fin 4) (q : PosShare TreeShare) (f : GBuf F) : sProp 𝕄 :=
  (slotM s b).view.loc (d : Thread nD τ) ↦[(slotM s b).view.set]{q} f

instance slotPt_storable (d s : Dev nD) (b : Fin 4) (q : PosShare TreeShare) (f : GBuf F) :
    BI.Storable (upEmb : UEmb _ 𝕄) (slotPt d s b q f) := by unfold slotPt; infer_instance

/-- The share kept of an own slot while its seven copies are in flight, and the share lent to copy `j`. -/
abbrev kept : PosShare TreeShare := shareDrop fullShare 7
abbrev lent (j : Fin 7) : PosShare TreeShare := shareTok fullShare 7 j

variable (G : GBuf F)

/-! ## The schedule -/

/-- Paid to device `c`'s barrier cell by the device `d + 1` places on: its four slots of `c`, and that the cells the copies
    into them complete on are in round 0. -/
def barPay (c : Dev nD) (d : Fin 7) : sProp 𝕄 :=
  bigSep Finset.univ fun b : Fin 4 =>
    iprop((∃ f, slotPt (peer c d) c b fullShare f) ∗ reached ER (rcvCell (peer c d) c b) 0)
/-- Paid to a send cell when its copy has read the source: the lent share back. -/
def sndPay (c : Dev nD) (k : Fin 28) : sProp 𝕄 := slotPt c c (bb k) (lent (jj k)) G
/-- Paid to a receive cell by a copy landing: the slot at its final contents. -/
def rcvPay (c s : Dev nD) (b : Fin 4) : sProp 𝕄 := slotPt c s b fullShare G

def cellDuties (c : Dev nD) : SemLoc sig → Finset D
  | .reg _ => Finset.univ
  | .dma i => if i.val < 5 ∨ (33 ≤ i.val ∧ (i.val - 33) / 4 = c.val) then ∅ else {0}
def cellAmount : SemLoc sig → ℕ
  | .reg _ => 1
  | .dma _ => N
def cellPay (c : Dev nD) (d : D) : SemLoc sig → sProp 𝕄
  | .reg _ => barPay c d
  | .dma i =>
    if h : i.val < 33 then sndPay G c ⟨(i.val - 5) % 28, Nat.mod_lt _ (by decide)⟩
    else rcvPay G c ⟨((i.val - 33) / 4) % 8, Nat.mod_lt _ (by decide)⟩ ⟨(i.val - 33) % 4, Nat.mod_lt _ (by decide)⟩

/-- One round on every cell of a TensorCore. -/
def Rd : Rounds.Schedule (GSem nD τ sig) D 𝕄 where
  duties g r := if r = 0 ∧ g.1.2 = .tc then cellDuties g.1.1 g.2 else ∅
  unitless _ := False
  amount g _ _ := cellAmount g.2
  payload g _ d := cellPay G g.1.1 d g.2
  amount_pos g _ _ _ := by
    rcases g with ⟨t, sm⟩
    cases sm
    · exact Nat.one_pos
    · exact N_pos

instance barPay_storable (c : Dev nD) (d : Fin 7) : BI.Storable (upEmb : UEmb _ 𝕄) (barPay c d) := by
  unfold barPay; infer_instance

instance Rd_payload_storable (g : GSem nD τ sig) (r : ℕ) (d : D) :
    BI.Storable (upEmb : UEmb _ 𝕄) ((Rd G).payload g r d) := by
  rcases g with ⟨t, sm⟩
  cases sm with
  | reg s => exact barPay_storable _ _
  | dma i =>
    show BI.Storable upEmb (cellPay G t.1 d (.dma i))
    by_cases h : i.val < 33
    · rw [show cellPay G t.1 d (.dma i) = _ from dif_pos h]; unfold sndPay; infer_instance
    · rw [show cellPay G t.1 d (.dma i) = _ from dif_neg h]; unfold rcvPay; infer_instance

section Sched
variable (c : Dev nD)

theorem duties_zero (sm : SemLoc sig) : (Rd G).duties ((c : Thread nD τ), sm) 0 = cellDuties c sm :=
  if_pos (e := (∅ : Finset D)) (show (0 : ℕ) = 0 ∧ (c : Thread nD τ).2 = .tc from ⟨rfl, rfl⟩)
theorem duties_bar : (Rd G).duties (barCell c) 0 = Finset.univ := duties_zero G c _
theorem duties_snd (k : Fin 28) : (Rd G).duties (sndCell c k) 0 = {0} := by
  refine (duties_zero G c _).trans (if_neg ?_)
  have := k.isLt
  simp only [sndS]; omega
theorem duties_rcv (s : Dev nD) (b : Fin 4) (h : s ≠ c) : (Rd G).duties (rcvCell c s b) 0 = {0} := by
  refine (duties_zero G c _).trans (if_neg ?_)
  have := b.isLt
  have : s.val ≠ c.val := fun e => h (Fin.ext e)
  simp only [rcvS]; omega
theorem duties_idle (b : Fin 4) : ∀ r, 0 ≤ r → (Rd G).duties (rcvCell c c b) r = ∅ := by
  intro r _
  by_cases hr : r = 0
  · subst hr
    refine (duties_zero G c _).trans (if_pos ?_)
    have := b.isLt
    simp only [rcvS]; omega
  · exact if_neg fun h => hr h.1
theorem duties_later (g : GSem nD τ sig) : ∀ r, 0 + 1 ≤ r → (Rd G).duties g r = ∅ :=
  fun r hr => if_neg fun h => by omega

theorem amount_bar (d : D) : (Rd G).amount (barCell c) 0 d = 1 := rfl
theorem amount_snd (k : Fin 28) (d : D) : (Rd G).amount (sndCell c k) 0 d = N := rfl
theorem amount_rcv (s : Dev nD) (b : Fin 4) (d : D) : (Rd G).amount (rcvCell c s b) 0 d = N := rfl

theorem expect_bar : (Rd G).expect (barCell c) 0 = 7 := by
  unfold Schedule.expect Schedule.amountOf
  rw [duties_bar, Finset.sum_congr rfl fun d _ => amount_bar G c d]; rfl
theorem expect_snd (k : Fin 28) : (Rd G).expect (sndCell c k) 0 = N := by
  unfold Schedule.expect Schedule.amountOf; rw [duties_snd, Finset.sum_singleton, amount_snd]
theorem expect_rcv (s : Dev nD) (b : Fin 4) (h : s ≠ c) : (Rd G).expect (rcvCell c s b) 0 = N := by
  unfold Schedule.expect Schedule.amountOf; rw [duties_rcv G c s b h, Finset.sum_singleton, amount_rcv]

theorem payload_bar (d : D) : (Rd G).payload (barCell c) 0 d = barPay c d := rfl
theorem payload_snd (k : Fin 28) (d : D) : (Rd G).payload (sndCell c k) 0 d = sndPay G c k := by
  have := k.isLt
  show cellPay G c d (.dma (sndS k)) = _
  dsimp only [cellPay]
  rw [dif_pos (by simp only [sndS]; omega)]
  congr 1
  exact Fin.ext (by simp only [sndS]; omega)
theorem payload_rcv (s : Dev nD) (b : Fin 4) (d : D) : (Rd G).payload (rcvCell c s b) 0 d = rcvPay G c s b := by
  have := b.isLt
  have : s.val < 8 := s.isLt
  show cellPay G c d (.dma (rcvS s b)) = _
  dsimp only [cellPay]
  rw [dif_neg (by simp only [rcvS]; omega)]
  congr 1
  · exact Fin.ext (by simp only [rcvS]; omega)
  · exact Fin.ext (by simp only [rcvS]; omega)

theorem rest_bar : bigSep ((Rd G).duties (barCell c) 0 \ ∅) (fun d => (Rd G).payload (barCell c) 0 d)
    = bigSep Finset.univ fun d : Fin 7 => barPay (F := F) c d := by
  rw [Finset.sdiff_empty, duties_bar]; rfl
theorem rest_snd (k : Fin 28) :
    bigSep ((Rd G).duties (sndCell c k) 0 \ ∅) (fun d => (Rd G).payload (sndCell c k) 0 d) = sndPay G c k := by
  rw [Finset.sdiff_empty, duties_snd, bigSep_singleton, payload_snd]
theorem rest_rcv (s : Dev nD) (b : Fin 4) (h : s ≠ c) :
    bigSep ((Rd G).duties (rcvCell c s b) 0 \ ∅) (fun d => (Rd G).payload (rcvCell c s b) 0 d) = rcvPay G c s b := by
  rw [Finset.sdiff_empty, duties_rcv G c s b h, bigSep_singleton, payload_rcv]

end Sched

/-! ## What each core owes; the levels -/

/-- The members of `Fin n` from `i` on, and those before `i`. -/
abbrev from_ {n : ℕ} (i : ℕ) : Finset (Fin n) := Finset.univ.filter fun k => i ≤ k.val
abbrev upto {n : ℕ} (i : ℕ) : Finset (Fin n) := Finset.univ.filter fun k => k.val < i

theorem from_step {n : ℕ} (k : Fin n) : (from_ k.val : Finset (Fin n)) = insert k (from_ (k.val + 1)) := by
  ext x; simp only [Finset.mem_filter, Finset.mem_univ, true_and, Finset.mem_insert, Fin.ext_iff]; omega
theorem from_notMem {n : ℕ} (k : Fin n) : k ∉ (from_ (k.val + 1) : Finset (Fin n)) := by
  simp only [Finset.mem_filter, Finset.mem_univ, true_and]; omega
theorem upto_step {n : ℕ} (k : Fin n) : (upto (k.val + 1) : Finset (Fin n)) = insert k (upto k.val) := by
  ext x; simp only [Finset.mem_filter, Finset.mem_univ, true_and, Finset.mem_insert, Fin.ext_iff]; omega
theorem upto_notMem {n : ℕ} (k : Fin n) : k ∉ (upto k.val : Finset (Fin n)) := by
  simp only [Finset.mem_filter, Finset.mem_univ, true_and]; omega
theorem from_zero {n : ℕ} : (from_ 0 : Finset (Fin n)) = Finset.univ := by ext x; simp
theorem from_end {n i : ℕ} (h : n ≤ i) : (from_ i : Finset (Fin n)) = ∅ := by ext x; have := x.isLt; simp; omega
theorem upto_zero {n : ℕ} : (upto 0 : Finset (Fin n)) = ∅ := by ext x; simp
theorem upto_end {n i : ℕ} (h : n ≤ i) : (upto i : Finset (Fin n)) = Finset.univ := by ext x; have := x.isLt; simp; omega

theorem bigSep_from {n : ℕ} (k : Fin n) (Φ : Fin n → sProp 𝕄) :
    bigSep (from_ k.val) Φ = iprop(Φ k ∗ bigSep (from_ (k.val + 1)) Φ) := by
  rw [from_step, BI.bigSep_insert (from_notMem k)]; rfl
theorem bigSep_upto {n : ℕ} (k : Fin n) (Φ : Fin n → sProp 𝕄) :
    bigSep (upto (k.val + 1)) Φ = iprop(Φ k ∗ bigSep (upto k.val) Φ) := by
  rw [upto_step, BI.bigSep_insert (upto_notMem k)]; rfl

/-- The barrier units still owed from raise `i` on; the receive credit still owed from copy `i` on. -/
def owedBar (c : Dev nD) (i : ℕ) : CellTallies nD τ sig Unit := ∑ j ∈ from_ i, tallyAt (barCell (peer c j)) () 1
def owedRcv (c : Dev nD) (i : ℕ) : CellTallies nD τ sig Unit :=
  ∑ k ∈ from_ i, tallyAt (rcvCell (peer c (jj k)) c (bb k)) () N
def O₀ (c : Dev nD) : CellTallies nD τ sig Unit := owedRcv c 0 + owedBar c 0

theorem owedBar_step (c : Dev nD) (j : Fin 7) : owedBar c j.val = owedBar c (j.val + 1) + tallyAt (barCell (peer c j)) () 1 := by
  unfold owedBar; rw [from_step, Finset.sum_insert (from_notMem j), add_comm]
theorem owedRcv_step (c : Dev nD) (k : Fin 28) :
    owedRcv c k.val = owedRcv c (k.val + 1) + tallyAt (rcvCell (peer c (jj k)) c (bb k)) () N := by
  unfold owedRcv; rw [from_step, Finset.sum_insert (from_notMem k), add_comm]
theorem owedBar_end (c : Dev nD) : owedBar c 7 = 0 := by unfold owedBar; rw [from_end le_rfl, Finset.sum_empty]
theorem owedRcv_end (c : Dev nD) : owedRcv c 28 = 0 := by unfold owedRcv; rw [from_end le_rfl, Finset.sum_empty]

def L (g : GSem nD τ sig) : Finset Unit := if g.1.2 = .tc then {()} else ∅
/-- Barrier cells at level 1, receive cells at level 2, the rest at 0. -/
def lv (g : GSem nD τ sig) (_ : Unit) : ℕ :=
  match g.2 with
  | .reg _ => 1
  | .dma i => if 33 ≤ i.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c s : Dev nD) (b : Fin 4) (u : Unit) : lv (rcvCell c s b) u = 2 :=
  if_pos (by simp only [rcvS]; omega)

theorem pos_of_sum {n : ℕ} {S : Finset (Fin n)} {f : Fin n → GSem nD τ sig} {a : ℕ} {g : GSem nD τ sig} {u : Unit}
    (h : 0 < (∑ k ∈ S, (tallyAt (f k) () a : CellTallies nD τ sig Unit)) g u) : ∃ k ∈ S, g = f k := by
  rw [Finset.sum_apply, Finsupp.finset_sum_apply] at h
  obtain ⟨k, hk, hp⟩ := Finset.exists_ne_zero_of_sum_ne_zero (Nat.pos_iff_ne_zero.mp h)
  rw [tallyAt_apply] at hp
  by_cases e : g = f k ∧ u = ()
  · exact ⟨k, hk, e.1⟩
  · rw [if_neg e] at hp; exact absurd rfl hp

theorem owedRcv_pos {c : Dev nD} {i : ℕ} {g : GSem nD τ sig} {u : Unit} (h : 0 < owedRcv c i g u) :
    ∃ (d : Dev nD) (b : Fin 4), g = rcvCell d c b := by
  obtain ⟨k, -, e⟩ := pos_of_sum h; exact ⟨_, _, e⟩
theorem owedBar_pos {c : Dev nD} {i : ℕ} {g : GSem nD τ sig} {u : Unit} (h : 0 < owedBar c i g u) :
    ∃ d : Dev nD, g = barCell d := by
  obtain ⟨k, -, e⟩ := pos_of_sum h; exact ⟨_, e⟩
theorem O₀_pos {c : Dev nD} {g : GSem nD τ sig} {u : Unit} (h : 0 < O₀ c g u) :
    (∃ (d : Dev nD) (b : Fin 4), g = rcvCell d c b) ∨ ∃ d : Dev nD, g = barCell d := by
  unfold O₀ at h
  rw [Pi.add_apply, Finsupp.add_apply] at h
  rcases Nat.add_pos_iff_pos_or_pos.mp h with h | h
  · exact .inl (owedRcv_pos h)
  · exact .inr (owedBar_pos h)

/-- The barrier may be waited for while receive credit is owed: receive cells lie above barrier cells. -/
theorem mayWait_bar (c : Dev nD) :
    (levAts L lv : sProp 𝕄) ⊢ MayWait (c : Thread nD τ) (.reg barS) () (owedRcv c 0) :=
  MayOwe.of_cut (L := L) (lev := lv) 1 (fun p hp => by rw [Finset.mem_singleton.mp hp, L_tc]; exact Finset.mem_singleton_self _)
    (fun g u hg => by obtain ⟨d, b, rfl⟩ := owedRcv_pos hg; rw [L_tc]; exact Finset.mem_singleton_self _)
    (fun p hp => by rw [Finset.mem_singleton.mp hp]; exact le_rfl)
    (fun g u hg => by obtain ⟨d, b, rfl⟩ := owedRcv_pos hg; rw [lv_rcv]; decide)

end Cert.KernelIdeal.Own

end
-- ==== Proof.Steps.lean ====
/-
  One step of the body at a time: a raise of a peer's barrier semaphore, the barrier wait, a copy to a peer, a wait for a copy.

  Each is stated over what a device holds before its step number `n` and after it, so that a run of steps is a chain of them.
-/
module

public import proofs.«01_k».proof.Proof.Proto

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
local notation "𝕄" => MT nD τ sig Unit (Elt F) ℕ UU ℕ
/-- A program of a TensorCore. -/
abbrev TP (F : FTy → Type) (α : Type) := Prog (TpuEff nD τ sig (Elt F) Λ₀ .tc) α

variable (G : GBuf F)

/-! ## The cells and their invariants -/

/-- The 60 DMA cells of the body: the 28 send cells, then the 32 receive cells. -/
def osem (k : Fin 60) : SemLoc sig := .dma ⟨5 + k.val, by have := k.isLt; show 5 + k.val < 65; omega⟩

def barEmb : Dev nD ↪ GSem nD τ sig := ⟨barCell, fun a b h => by
  have := congrArg (fun g : GSem nD τ sig => g.1.1) h; exact this⟩
def scEmb : Dev nD × Fin 60 ↪ GSem nD τ sig := ⟨fun p => ((p.1 : Thread nD τ), osem p.2), fun a b h => by
  have h1 : a.1 = b.1 := congrArg (fun g : GSem nD τ sig => g.1.1) h
  have h2 : osem a.2 = osem b.2 := congrArg (fun g : GSem nD τ sig => g.2) h
  simp only [osem, SemLoc.dma.injEq, Fin.mk.injEq] at h2
  exact Prod.ext h1 (Fin.ext (by omega))⟩
def barCells : Finset (GSem nD τ sig) := Finset.univ.map barEmb
def scCells : Finset (GSem nD τ sig) := Finset.univ.map scEmb

theorem osem_snd (k : Fin 28) : osem ⟨k.val, by omega⟩ = .dma (sndS k) := rfl
theorem osem_rcv (s : Dev nD) (b : Fin 4) :
    osem ⟨28 + 4 * s.val + b.val, by have := b.isLt; have : s.val < 8 := s.isLt; omega⟩ = .dma (rcvS s b) := by
  simp only [osem, rcvS, SemLoc.dma.injEq, Fin.mk.injEq]; omega

theorem mem_bar (c : Dev nD) : barCell c ∈ barCells ∪ scCells :=
  Finset.mem_union_left _ (Finset.mem_map.mpr ⟨c, Finset.mem_univ _, rfl⟩)
theorem mem_snd (c : Dev nD) (k : Fin 28) : sndCell c k ∈ barCells ∪ scCells :=
  Finset.mem_union_right _ (Finset.mem_map.mpr ⟨(c, ⟨k.val, by omega⟩), Finset.mem_univ _, rfl⟩)
theorem mem_rcv (c s : Dev nD) (b : Fin 4) : rcvCell c s b ∈ barCells ∪ scCells :=
  Finset.mem_union_right _ (Finset.mem_map.mpr ⟨(c, _), Finset.mem_univ _, Prod.ext rfl (osem_rcv s b)⟩)

/-- The invariants of all the cells, at the names `K`. -/
def records (K : GSem nD τ sig → ℕ) : sProp 𝕄 := bigSep (barCells ∪ scCells) fun g => cellInv ER (Rd G) (K g) g
instance records_persistent (K : GSem nD τ sig → ℕ) : BI.Persistent (records G K) := by unfold records; infer_instance
theorem inv_at (K : GSem nD τ sig → ℕ) {g : GSem nD τ sig} (h : g ∈ barCells ∪ scCells) :
    records G K ⊢ cellInv ER (Rd G) (K g) g := BI.bigSep_elim h

theorem close (κ : ℕ) (g : GSem nD τ sig) :
    iprop(cellInv ER (Rd G) κ g ∗ atPos ER g (0 + 1) ∅ 0) ⊢ (|={Set.univ}=> semVal g 0 : sProp 𝕄) :=
  Rounds.cell_close ER (Rd G) (Set.mem_univ κ) id (duties_later G g)

/-! ## Raises of the barrier semaphores -/

def sigRes (c : Dev nD) (j : Fin 7) : sProp 𝕄 :=
  iprop(dutyTok ER (barCell (peer c j)) 0 j.rev ∗ reached ER (barCell (peer c j)) 0 ∗ barPay (peer c j) j.rev)
/-- Before raise `n`. -/
def SigSt (K : GSem nD τ sig → ℕ) (c : Dev nD) (n : ℕ) : sProp 𝕄 :=
  iprop(records G K ∗ bigSep (from_ n) (sigRes c) ∗ ∃ W, owes (c : Thread nD τ) (owedRcv c 0 + owedBar c n) W)

theorem sig_step (K : GSem nD τ sig → ℕ) (c : Dev nD) (n : ℕ) (h : n < 7) {dev : Dev nD} (hdev : dev = peer c ⟨n, h⟩)
    {α : Type} {k : PUnit.{1} → TP F α} {Q : α → sProp 𝕄} :
    SigSt G K c n ⊢ iprop((SigSt G K c (n + 1) -∗ wp frame (wpE (defs₀ (F := F)) 𝒱₀ c none) Set.univ (k ⟨⟩) Q)
      -∗ wp frame (wpE (defs₀ (F := F)) 𝒱₀ c none) Set.univ (.op (.semSignal (dev : Thread nD τ) barS 1) k) Q) := by
  subst hdev
  unfold SigSt
  rw [show bigSep (from_ n) (sigRes (F := F) c) = _ from bigSep_from (⟨n, h⟩ : Fin 7) _]
  iintro ⟨#HI, ⟨Hr, Hrest⟩, ⟨%W, HO⟩⟩ Hk
  unfold sigRes
  icases Hr with ⟨Ht, #Hre, Hp⟩
  iapply (Rounds.wp_signal 𝒱₀ ER (Rd G) (c : Thread nD τ) none (dst := (peer c ⟨n, h⟩ : Thread nD τ)) (sem := barS) (r := 0)
      (d := (⟨n, h⟩ : Fin 7).rev) (κ := K (barCell (peer c ⟨n, h⟩)))
      (by rw [duties_bar]; exact Finset.mem_univ _) (amount_bar G _ _) () (owedRcv c 0 + owedBar c (n + 1))
      (O₀ := owedRcv c 0 + owedBar c n)
      (by rw [show owedBar c n = _ from owedBar_step c ⟨n, h⟩, add_assoc]))
    $$ [HO Ht Hp]
  · isplitr; · iapply (inv_at G K (mem_bar _)); iexact HI
    isplitl [HO]; · iexact HO
    isplitl [Ht]; · iexact Ht
    isplitl [Hp]; · rw [payload_bar]; iexact Hp
    iexact Hre
  iintro HO
  iapply Hk
  isplitr; · iexact HI
  isplitl [Hrest]; · iexact Hrest
  iexists W; iexact HO

/-! ## The barrier wait -/

theorem bar_step (K : GSem nD τ sig → ℕ) (c : Dev nD) {α : Type} {k : PUnit.{1} → TP F α} {Q : α → sProp 𝕄} :
    iprop(SigSt G K c 7 ∗ levAts L lv ∗ cred (tallyAt (barCell c) () 7) ∗ atPos ER (barCell c) 0 ∅ 0)
      ⊢ iprop(((records G K ∗ semVal (barCell c) 0 ∗ bigSep Finset.univ (fun d : Fin 7 => barPay (F := F) c d)
          ∗ ∃ W, owes (c : Thread nD τ) (owedRcv c 0) W)
          -∗ wp frame (wpE (defs₀ (F := F)) 𝒱₀ c none) Set.univ (k ⟨⟩) Q)
      -∗ wp frame (wpE (defs₀ (F := F)) 𝒱₀ c none) Set.univ (.op (.semWait barS 7) k) Q) := by
  unfold SigSt
  rw [owedBar_end, add_zero, from_end (n := 7) le_rfl, bigSep_empty]
  iintro ⟨⟨#HI, -, ⟨%W, HO⟩⟩, #Hlev, Hc, Hat⟩ Hk
  iapply (Rounds.wp_wait_rest_token 𝒱₀ ER (Rd G) (c : Thread nD τ) none (κ := K (barCell c))
      (wpE_semWait_eq 𝒱₀ (c : Thread nD τ) none Set.univ) (Set.mem_univ _) () (O := owedRcv c 0) (W := W) (R := 0) (m := 0) (T := ∅)
      ((Nat.zero_add _).trans (expect_bar G c).symm)) $$ [Hc HO Hat]
  · isplitr; · iapply (inv_at G K (mem_bar _)); iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar G c)) $$ Hpay
  imod (close G (K (barCell c)) (barCell c)) $$ [Hat] with Hb
  · isplitr; · iapply (inv_at G K (mem_bar _)); iexact HI
    iexact Hat
  iapply Hk
  isplitr; · iexact HI
  isplitl [Hb]; · iexact Hb
  isplitl [Hp]; · iexact Hp
  iexists _; iexact HO

/-! ## Copies to the peers -/

def sendRes (c : Dev nD) (k : Fin 28) : sProp 𝕄 :=
  iprop(dutyTok ER (sndCell c k) 0 0 ∗ reached ER (sndCell c k) 0
    ∗ dutyTok ER (rcvCell (peer c (jj k)) c (bb k)) 0 0 ∗ reached ER (rcvCell (peer c (jj k)) c (bb k)) 0
    ∗ (∃ f, slotPt (peer c (jj k)) c (bb k) fullShare f) ∗ slotPt c c (bb k) (lent (jj k)) G)
def sndCred (c : Dev nD) (k : Fin 28) : sProp 𝕄 := cred (tallyAt (sndCell c k) () N)
/-- Before copy `n`. -/
def SendSt (K : GSem nD τ sig → ℕ) (c : Dev nD) (n : ℕ) : sProp 𝕄 :=
  iprop(records G K ∗ bigSep (from_ n) (sendRes G c) ∗ bigSep (upto n) (sndCred c)
    ∗ ∃ W, owes (c : Thread nD τ) (owedRcv c n) W)

/-- A copy of a slot at `G` leaves the destination's slot at `G`. -/
theorem landed (d s : Dev nD) (b : Fin 4) (f : GBuf F) :
    ((slotM s b).view.loc (d : Thread nD τ) ↦[(slotM s b).view.set]{fullShare}
      ((slotM s b).view.write (Elt F) f ((slotM s b).view.read (Elt F) G) Finset.univ) : sProp 𝕄)
      = slotPt d s b fullShare G := by
  unfold slotPt
  refine pointsTo_congr fun i hi => ?_
  rw [View.write_read_eq_piecewise, View.setOn_univ]
  exact Finset.piecewise_eq_of_mem _ _ _ hi

theorem send_step (K : GSem nD τ sig → ℕ) (c : Dev nD) (n : ℕ) (h : n < 28)
    {dev : Dev nD} (hdev : dev = peer c (jj ⟨n, h⟩))
    {src dst : Memref sig .tc .vmem S128x128 .f32} (hs : src = slotM c (bb ⟨n, h⟩)) (hd : dst = slotM c (bb ⟨n, h⟩))
    {sS sR : DmaSem sig} (hsS : sS = sndS ⟨n, h⟩) (hsR : sR = rcvS c (bb ⟨n, h⟩))
    {hsrc : src.view.WordExact} {hdst : dst.view.WordExact}
    {hsc : dst.view.ref.isScScratch = false}
    {hsem : DmaTarget.Typed .vmem (.dma sR) (.remote (Dev.tc dev) dst (.dma sS) hsc)}
    {α : Type} {k : PUnit.{1} → TP F α} {Q : α → sProp 𝕄} :
    SendSt G K c n ⊢ iprop((SendSt G K c (n + 1) -∗ wp frame (wpE (defs₀ (F := F)) 𝒱₀ c none) Set.univ (k ⟨⟩) Q)
      -∗ wp frame (wpE (defs₀ (F := F)) 𝒱₀ c none) Set.univ
        (.op (.enqueueDma src (.remote (Dev.tc dev) dst (.dma sS) hsc) (.dma sR) hsrc hdst hsem) k) Q) := by
  subst hdev hs hd hsS hsR
  unfold SendSt
  rw [show bigSep (from_ n) (sendRes G c) = _ from bigSep_from (⟨n, h⟩ : Fin 28) _,
    show bigSep (upto (n + 1)) (sndCred (F := F) c) = _ from bigSep_upto (⟨n, h⟩ : Fin 28) _]
  iintro ⟨#HI, ⟨Hr, Hrest⟩, Hcr, ⟨%W, HO⟩⟩ Hk
  unfold sendRes slotPt
  icases Hr with ⟨HtS, #HrS, HtR, #HrR, ⟨%f, Hd⟩, Hs⟩
  iapply (Rounds.wp_send_pointsTo 𝒱₀ ER (Rd G) (c : Thread nD τ) none (c' := (peer c (jj ⟨n, h⟩) : Thread nD τ))
      (src := slotM c (bb ⟨n, h⟩)) (dst := slotM c (bb ⟨n, h⟩))
      (sS := .dma (sndS ⟨n, h⟩)) (sem := .dma (rcvS c (bb ⟨n, h⟩))) (q := lent (jj ⟨n, h⟩)) (fs := G)
      (κ₁ := K (sndCell c ⟨n, h⟩)) (κ₂ := K (rcvCell (peer c (jj ⟨n, h⟩)) c (bb ⟨n, h⟩)))
      (r₁ := 0) (r₂ := 0) (d₁ := 0) (d₂ := 0) (fd := f)
      (by rw [duties_snd]; exact Finset.mem_singleton_self _)
      (by rw [duties_rcv G _ _ _ (peer_ne c _).symm]; exact Finset.mem_singleton_self _)
      () () N rfl (amount_snd G c _ _) (amount_rcv G _ _ _ _) (owedRcv c (n + 1)) (owedRcv_step c ⟨n, h⟩) (W := W)
      (by rw [payload_snd]; unfold sndPay slotPt; exact BI.Entails.refl _)
      (by rw [payload_rcv]; exact Entails.of_eq (landed G _ _ _ _))) $$ [Hs Hd HO HtS HtR]
  · isplitr; · iapply (inv_at G K (mem_snd _ _)); iexact HI
    isplitr; · iapply (inv_at G K (mem_rcv _ _ _)); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitr; · iexact HI
  isplitl [Hrest]; · iexact Hrest
  isplitl [HcS Hcr]
  · isplitl [HcS]; · unfold sndCred; iexact HcS
    iexact Hcr
  iexists W; iexact HO

/-! ## Waits for the copies in, then for the copies out -/

/-- Wait `k` is for the copy in from the `k / 4`-th other device. -/
def src (c : Dev nD) (k : Fin 28) : Dev nD := peer c (jj k)
theorem src_ne (c : Dev nD) (k : Fin 28) : src c k ≠ c := peer_ne c _

def rwRes (c : Dev nD) (k : Fin 28) : sProp 𝕄 :=
  iprop(atPos ER (rcvCell c (src c k) (bb k)) 0 ∅ 0 ∗ cred (tallyAt (rcvCell c (src c k) (bb k)) () N))
def rwGot (c : Dev nD) (k : Fin 28) : sProp 𝕄 :=
  iprop(slotPt c (src c k) (bb k) fullShare G ∗ semVal (rcvCell c (src c k) (bb k)) 0)
/-- Before wait `n` for a copy in. -/
def RwSt (K : GSem nD τ sig → ℕ) (c : Dev nD) (n : ℕ) : sProp 𝕄 :=
  iprop(records G K ∗ bigSep (from_ n) (rwRes c) ∗ bigSep (upto n) (rwGot G c) ∗ ∃ W, owes (c : Thread nD τ) 0 W)

theorem rw_step (K : GSem nD τ sig → ℕ) (c : Dev nD) (n : ℕ) (h : n < 28)
    {sem : DmaSem sig} (hsem : sem = rcvS (src c ⟨n, h⟩) (bb ⟨n, h⟩))
    {vs vd : Memref sig .tc .vmem S128x128 .f32} {hsrc : vs.view.WordExact} {hdst : vd.view.WordExact}
    (hN : vd.view.dmaCredit = N)
    {α : Type} {k : PUnit.{1} → TP F α} {Q : α → sProp 𝕄} :
    RwSt G K c n ⊢ iprop((RwSt G K c (n + 1) -∗ wp frame (wpE (defs₀ (F := F)) 𝒱₀ c none) Set.univ (k ⟨⟩) Q)
      -∗ wp frame (wpE (defs₀ (F := F)) 𝒱₀ c none) Set.univ (.op (.waitDma2 sem vs vd hsrc hdst) k) Q) := by
  subst hsem
  unfold RwSt
  rw [show bigSep (from_ n) (rwRes (F := F) c) = _ from bigSep_from (⟨n, h⟩ : Fin 28) _,
    show bigSep (upto (n + 1)) (rwGot G c) = _ from bigSep_upto (⟨n, h⟩ : Fin 28) _]
  iintro ⟨#HI, ⟨Hr, Hrest⟩, Hgot, ⟨%W, HO⟩⟩ Hk
  unfold rwRes
  icases Hr with ⟨Hat, Hc⟩
  iapply (Rounds.wp_wait_rest_token 𝒱₀ ER (Rd G) (c : Thread nD τ) none (κ := K (rcvCell c (src c ⟨n, h⟩) (bb ⟨n, h⟩)))
      (wpE_waitDma2_eq (src := vs) (dst := vd) 𝒱₀ (c : Thread nD τ) none Set.univ) (Set.mem_univ _) () (O := 0) (W := W) (R := 0) (m := 0) (T := ∅)
      ((Nat.zero_add _).trans (hN.trans (expect_rcv G c _ _ (src_ne c _)).symm))) $$ [Hc HO Hat]
  · isplitr; · iapply (inv_at G K (mem_rcv _ _ _)); iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_rcv G c _ _ (src_ne c _))) $$ Hpay
  imod (close G (K (rcvCell c (src c ⟨n, h⟩) (bb ⟨n, h⟩))) (rcvCell c (src c ⟨n, h⟩) (bb ⟨n, h⟩))) $$ [Hat] with Hb
  · isplitr; · iapply (inv_at G K (mem_rcv _ _ _)); iexact HI
    iexact Hat
  iapply Hk
  isplitr; · iexact HI
  isplitl [Hrest]; · iexact Hrest
  isplitl [Hp Hb Hgot]
  · isplitl [Hp Hb]
    · unfold rwGot rcvPay; isplitl [Hp] <;> iassumption
    iexact Hgot
  iexists _; iexact HO

def swRes (c : Dev nD) (k : Fin 28) : sProp 𝕄 := iprop(atPos ER (sndCell c k) 0 ∅ 0 ∗ sndCred c k)
def swGot (c : Dev nD) (k : Fin 28) : sProp 𝕄 := iprop(slotPt c c (bb k) (lent (jj k)) G ∗ semVal (sndCell c k) 0)
/-- Before wait `n` for a copy out. -/
def SwSt (K : GSem nD τ sig → ℕ) (c : Dev nD) (n : ℕ) : sProp 𝕄 :=
  iprop(records G K ∗ bigSep (from_ n) (swRes c) ∗ bigSep (upto n) (swGot G c) ∗ ∃ W, owes (c : Thread nD τ) 0 W)

theorem sw_step (K : GSem nD τ sig → ℕ) (c : Dev nD) (n : ℕ) (h : n < 28)
    {sem : DmaSem sig} (hsem : sem = sndS ⟨n, h⟩)
    {vs vd : Memref sig .tc .vmem S128x128 .f32} {hsrc : vs.view.WordExact} {hdst : vd.view.WordExact}
    (hN : vd.view.dmaCredit = N)
    {α : Type} {k : PUnit.{1} → TP F α} {Q : α → sProp 𝕄} :
    SwSt G K c n ⊢ iprop((SwSt G K c (n + 1) -∗ wp frame (wpE (defs₀ (F := F)) 𝒱₀ c none) Set.univ (k ⟨⟩) Q)
      -∗ wp frame (wpE (defs₀ (F := F)) 𝒱₀ c none) Set.univ (.op (.waitDma2 sem vs vd hsrc hdst) k) Q) := by
  subst hsem
  unfold SwSt
  rw [show bigSep (from_ n) (swRes (F := F) c) = _ from bigSep_from (⟨n, h⟩ : Fin 28) _,
    show bigSep (upto (n + 1)) (swGot G c) = _ from bigSep_upto (⟨n, h⟩ : Fin 28) _]
  iintro ⟨#HI, ⟨Hr, Hrest⟩, Hgot, ⟨%W, HO⟩⟩ Hk
  unfold swRes sndCred
  icases Hr with ⟨Hat, Hc⟩
  iapply (Rounds.wp_wait_rest_token 𝒱₀ ER (Rd G) (c : Thread nD τ) none (κ := K (sndCell c ⟨n, h⟩))
      (wpE_waitDma2_eq (src := vs) (dst := vd) 𝒱₀ (c : Thread nD τ) none Set.univ) (Set.mem_univ _) () (O := 0) (W := W) (R := 0) (m := 0) (T := ∅)
      ((Nat.zero_add _).trans (hN.trans (expect_snd G c _).symm))) $$ [Hc HO Hat]
  · isplitr; · iapply (inv_at G K (mem_snd _ _)); iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_snd G c _)) $$ Hpay
  imod (close G (K (sndCell c ⟨n, h⟩)) (sndCell c ⟨n, h⟩)) $$ [Hat] with Hb
  · isplitr; · iapply (inv_at G K (mem_snd _ _)); iexact HI
    iexact Hat
  iapply Hk
  isplitr; · iexact HI
  isplitl [Hrest]; · iexact Hrest
  isplitl [Hp Hb Hgot]
  · isplitl [Hp Hb]
    · unfold swGot sndPay; isplitl [Hp] <;> iassumption
    iexact Hgot
  iexists _; iexact HO

end Cert.KernelIdeal.Own

end
-- ==== Proof.Facts.lean ====
/-
  What the printed body's devices, semaphores and views are, and its loads and stores.
-/
module

public import proofs.«01_k».proof.Proof.Steps

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
local notation "𝕄" => MT nD τ sig Unit (Elt F) ℕ UU ℕ
variable (G : GBuf F)

/-! ## Devices -/

theorem dev1 : ∀ c : Dev nD, (⟨k0_dev1 c, k0_dev1_lt c⟩ : Dev nD) = peer c ⟨0, by decide⟩ := by decide +kernel
theorem dev2 : ∀ c : Dev nD, (⟨k0_dev2 c, k0_dev2_lt c⟩ : Dev nD) = peer c ⟨1, by decide⟩ := by decide +kernel
theorem dev3 : ∀ c : Dev nD, (⟨k0_dev3 c, k0_dev3_lt c⟩ : Dev nD) = peer c ⟨2, by decide⟩ := by decide +kernel
theorem dev4 : ∀ c : Dev nD, (⟨k0_dev4 c, k0_dev4_lt c⟩ : Dev nD) = peer c ⟨3, by decide⟩ := by decide +kernel
theorem dev5 : ∀ c : Dev nD, (⟨k0_dev5 c, k0_dev5_lt c⟩ : Dev nD) = peer c ⟨4, by decide⟩ := by decide +kernel
theorem dev6 : ∀ c : Dev nD, (⟨k0_dev6 c, k0_dev6_lt c⟩ : Dev nD) = peer c ⟨5, by decide⟩ := by decide +kernel
theorem dev7 : ∀ c : Dev nD, (⟨k0_dev7 c, k0_dev7_lt c⟩ : Dev nD) = peer c ⟨6, by decide⟩ := by decide +kernel
theorem dev8 : ∀ c : Dev nD, (⟨k0_dev8 c, k0_dev8_lt c⟩ : Dev nD) = peer c ⟨0, by decide⟩ := by decide +kernel
theorem dev9 : ∀ c : Dev nD, (⟨k0_dev9 c, k0_dev9_lt c⟩ : Dev nD) = peer c ⟨0, by decide⟩ := by decide +kernel
theorem dev10 : ∀ c : Dev nD, (⟨k0_dev10 c, k0_dev10_lt c⟩ : Dev nD) = peer c ⟨0, by decide⟩ := by decide +kernel
theorem dev11 : ∀ c : Dev nD, (⟨k0_dev11 c, k0_dev11_lt c⟩ : Dev nD) = peer c ⟨0, by decide⟩ := by decide +kernel
theorem dev12 : ∀ c : Dev nD, (⟨k0_dev12 c, k0_dev12_lt c⟩ : Dev nD) = peer c ⟨1, by decide⟩ := by decide +kernel
theorem dev13 : ∀ c : Dev nD, (⟨k0_dev13 c, k0_dev13_lt c⟩ : Dev nD) = peer c ⟨1, by decide⟩ := by decide +kernel
theorem dev14 : ∀ c : Dev nD, (⟨k0_dev14 c, k0_dev14_lt c⟩ : Dev nD) = peer c ⟨1, by decide⟩ := by decide +kernel
theorem dev15 : ∀ c : Dev nD, (⟨k0_dev15 c, k0_dev15_lt c⟩ : Dev nD) = peer c ⟨1, by decide⟩ := by decide +kernel
theorem dev16 : ∀ c : Dev nD, (⟨k0_dev16 c, k0_dev16_lt c⟩ : Dev nD) = peer c ⟨2, by decide⟩ := by decide +kernel
theorem dev17 : ∀ c : Dev nD, (⟨k0_dev17 c, k0_dev17_lt c⟩ : Dev nD) = peer c ⟨2, by decide⟩ := by decide +kernel
theorem dev18 : ∀ c : Dev nD, (⟨k0_dev18 c, k0_dev18_lt c⟩ : Dev nD) = peer c ⟨2, by decide⟩ := by decide +kernel
theorem dev19 : ∀ c : Dev nD, (⟨k0_dev19 c, k0_dev19_lt c⟩ : Dev nD) = peer c ⟨2, by decide⟩ := by decide +kernel
theorem dev20 : ∀ c : Dev nD, (⟨k0_dev20 c, k0_dev20_lt c⟩ : Dev nD) = peer c ⟨3, by decide⟩ := by decide +kernel
theorem dev21 : ∀ c : Dev nD, (⟨k0_dev21 c, k0_dev21_lt c⟩ : Dev nD) = peer c ⟨3, by decide⟩ := by decide +kernel
theorem dev22 : ∀ c : Dev nD, (⟨k0_dev22 c, k0_dev22_lt c⟩ : Dev nD) = peer c ⟨3, by decide⟩ := by decide +kernel
theorem dev23 : ∀ c : Dev nD, (⟨k0_dev23 c, k0_dev23_lt c⟩ : Dev nD) = peer c ⟨3, by decide⟩ := by decide +kernel
theorem dev24 : ∀ c : Dev nD, (⟨k0_dev24 c, k0_dev24_lt c⟩ : Dev nD) = peer c ⟨4, by decide⟩ := by decide +kernel
theorem dev25 : ∀ c : Dev nD, (⟨k0_dev25 c, k0_dev25_lt c⟩ : Dev nD) = peer c ⟨4, by decide⟩ := by decide +kernel
theorem dev26 : ∀ c : Dev nD, (⟨k0_dev26 c, k0_dev26_lt c⟩ : Dev nD) = peer c ⟨4, by decide⟩ := by decide +kernel
theorem dev27 : ∀ c : Dev nD, (⟨k0_dev27 c, k0_dev27_lt c⟩ : Dev nD) = peer c ⟨4, by decide⟩ := by decide +kernel
theorem dev28 : ∀ c : Dev nD, (⟨k0_dev28 c, k0_dev28_lt c⟩ : Dev nD) = peer c ⟨5, by decide⟩ := by decide +kernel
theorem dev29 : ∀ c : Dev nD, (⟨k0_dev29 c, k0_dev29_lt c⟩ : Dev nD) = peer c ⟨5, by decide⟩ := by decide +kernel
theorem dev30 : ∀ c : Dev nD, (⟨k0_dev30 c, k0_dev30_lt c⟩ : Dev nD) = peer c ⟨5, by decide⟩ := by decide +kernel
theorem dev31 : ∀ c : Dev nD, (⟨k0_dev31 c, k0_dev31_lt c⟩ : Dev nD) = peer c ⟨5, by decide⟩ := by decide +kernel
theorem dev32 : ∀ c : Dev nD, (⟨k0_dev32 c, k0_dev32_lt c⟩ : Dev nD) = peer c ⟨6, by decide⟩ := by decide +kernel
theorem dev33 : ∀ c : Dev nD, (⟨k0_dev33 c, k0_dev33_lt c⟩ : Dev nD) = peer c ⟨6, by decide⟩ := by decide +kernel
theorem dev34 : ∀ c : Dev nD, (⟨k0_dev34 c, k0_dev34_lt c⟩ : Dev nD) = peer c ⟨6, by decide⟩ := by decide +kernel
theorem dev35 : ∀ c : Dev nD, (⟨k0_dev35 c, k0_dev35_lt c⟩ : Dev nD) = peer c ⟨6, by decide⟩ := by decide +kernel

/-! ## Offsets -/

theorem off7 : ∀ (c : Dev nD) (j : Fin 7),
    k0_off7 c (BitVec.ofNat 32 j.val) = ![(peer c j).val, (0 : Fin 4).val] := by decide +kernel
theorem off9 : ∀ (c : Dev nD) (j : Fin 7),
    k0_off9 c (BitVec.ofNat 32 j.val) = ![(peer c j).val, (1 : Fin 4).val] := by decide +kernel
theorem off10 : ∀ (c : Dev nD) (j : Fin 7),
    k0_off10 c (BitVec.ofNat 32 j.val) = ![(peer c j).val, (2 : Fin 4).val] := by decide +kernel
theorem off11 : ∀ (c : Dev nD) (j : Fin 7),
    k0_off11 c (BitVec.ofNat 32 j.val) = ![(peer c j).val, (3 : Fin 4).val] := by decide +kernel

/-! ## Semaphores and views -/

theorem rcv_inb (s : Dev nD) (b : Fin 4) : ∀ a, (![s.val, b.val] : Fin 2 → ℕ) a + S1x1.size a ≤ S8x4.size a := by
  revert s b; decide +kernel
theorem rcv_sem_at : ∀ (s : Dev nD) (b : Fin 4),
    ((cc0_scratch2.slice (Rect.unit (s := S8x4) ![s.val, b.val] S1x1.size (rcv_inb s b))).squeeze S_ squeezes_S1x1_S_).sem = rcvS s b := by
  decide +kernel
theorem rcv_sem (s : Dev nD) (b : Fin 4) {off : Fin 2 → ℕ} (h : off = ![s.val, b.val])
    (inb : ∀ a, off a + S1x1.size a ≤ S8x4.size a) :
    ((cc0_scratch2.slice (Rect.unit (s := S8x4) off S1x1.size inb)).squeeze S_ squeezes_S1x1_S_).sem = rcvS s b := by
  subst h; exact rcv_sem_at s b
theorem snd_inb (k : Fin 28) : ∀ a, (![(jj k).val, (bb k).val] : Fin 2 → ℕ) a + S1x1.size a ≤ S7x4.size a := by
  revert k; decide +kernel
theorem snd_sem_at : ∀ k : Fin 28,
    ((cc0_scratch1.slice (Rect.unit (s := S7x4) ![(jj k).val, (bb k).val] S1x1.size (snd_inb k))).squeeze S_ squeezes_S1x1_S_).sem = sndS k := by
  decide +kernel
theorem snd_sem (k : Fin 28) {off : Fin 2 → ℕ} (h : off = ![(jj k).val, (bb k).val])
    (inb : ∀ a, off a + S1x1.size a ≤ S7x4.size a) :
    ((cc0_scratch1.slice (Rect.unit (s := S7x4) off S1x1.size inb)).squeeze S_ squeezes_S1x1_S_).sem = sndS k := by
  subst h; exact snd_sem_at k

theorem slot_view (s : Dev nD) (b : Fin 4) {off : Fin 2 → ℕ} (h : off = ![1024 * b.val + 128 * s.val, 0])
    (inb : ∀ a, off a + S128x128.size a ≤ S4096x128.size a) (hs) :
    SM.slice (Rect.unit (s := S4096x128) off S128x128.size inb) hs = slotM s b := by
  subst h; rfl
theorem credit (off : Fin 2 → ℕ) (inb : ∀ a, off a + S128x128.size a ≤ S4096x128.size a) (hs) :
    (SM.slice (Rect.unit (s := S4096x128) off S128x128.size inb) hs).view.dmaCredit = N := rfl

/-! ## The staging buffers and the own rows -/

abbrev A0 : Memref sig .tc .vmem S256x512 .f32 := Memref.whole cc0_stg0_0
abbrev A1 : Memref sig .tc .vmem S512x512 .f32 := Memref.whole cc0_stg1_0
abbrev A2 : Memref sig .tc .vmem S512x512 .f32 := Memref.whole cc0_stg2_0
abbrev A3 : Memref sig .tc .vmem S512x128 .f32 := Memref.whole cc0_stg3_0
abbrev A4 : Memref sig .tc .vmem S256x512 .f32 := Memref.whole cc0_stg4_0
abbrev hA {b : Ref sig .tc} : (Memref.whole b).IsWhole := Memref.isWhole_whole b

/-- A whole buffer of device `c`. -/
def stg (c : Dev nD) (b : Ref sig .tc) (q : PosShare TreeShare) (X : b.ty.Contents (Elt F)) : sProp 𝕄 :=
  ((c : Thread nD τ).loc b) ↦{q} X

/-- The rows of block `b` among a device's own rows of the packed keys and values. -/
def ownRows (X : (cc0_stg3_0 : Ref sig .tc).ty.Contents (Elt F)) (b : Fin 4) : S128x128.Idx → Elt F .f32 :=
  match b with
  | 0 => A3.view.readAt (Elt F) (Rect.unit (s := S512x128) ![0, 0] S128x128.size inb_S512x128_S128x128_0_0).toLoadRect X
  | 1 => A3.view.readAt (Elt F) (Rect.unit (s := S512x128) ![128, 0] S128x128.size inb_S512x128_S128x128_128_0).toLoadRect X
  | 2 => A3.view.readAt (Elt F) (Rect.unit (s := S512x128) ![256, 0] S128x128.size inb_S512x128_S128x128_256_0).toLoadRect X
  | 3 => A3.view.readAt (Elt F) (Rect.unit (s := S512x128) ![384, 0] S128x128.size inb_S512x128_S128x128_384_0).toLoadRect X

/-- The own slot of block `b`, at contents not chosen. -/
def ownAny (c : Dev nD) (b : Fin 4) : sProp 𝕄 := iprop(∃ f, slotPt c c b fullShare f)

/-- A load of an own slot, whatever it holds. -/
theorem own_load (c : Dev nD) (b : Fin 4) {off : Fin 2 → ℕ} (h : off = ![1024 * b.val + 128 * c.val, 0])
    {inb : ∀ a, off a + S128x128.size a ≤ S4096x128.size a}
    {hl : SM.view.LoadsAt (Rect.unit (s := S4096x128) off S128x128.size inb).toLoadRect}
    {α : Type} {k : (S128x128.Idx → Elt F .f32) → TP F α} {Q : α → sProp 𝕄} :
    ownAny c b ⊢ iprop((∀ v, ownAny c b -∗ wp frame (wpE (defs₀ (F := F)) 𝒱₀ c none) Set.univ (k v) Q)
      -∗ wp frame (wpE (defs₀ (F := F)) 𝒱₀ c none) Set.univ
        (.op (.load SM (Rect.unit (s := S4096x128) off S128x128.size inb).toLoadRect hl) k) Q) := by
  subst h
  unfold ownAny slotPt
  iintro ⟨%f, H⟩ Hk
  iapply (wp_load_rect (m := SM) (r := slotR c b) 𝒱₀ (c : Thread nD τ) none Set.univ (S := (slotM c b).view.set)
    (q := fullShare) (f := f) (Finset.Subset.refl _)) $$ H
  iintro H
  iapply Hk
  iexists f; iexact H

/-- The store of the own rows of block `b`: the own slot then holds its rows of `G`. -/
theorem own_store (c : Dev nD) (b : Fin 4) {off : Fin 2 → ℕ} (h : off = ![1024 * b.val + 128 * c.val, 0])
    {inb : ∀ a, off a + S128x128.size a ≤ S4096x128.size a} {w : S128x128.Idx → Elt F .f32}
    (hw : w = (slotM c b).view.read (Elt F) G)
    {hx : (SM.access (Rect.unit (s := S4096x128) off S128x128.size inb)).Stores Finset.univ} {hm}
    {α : Type} {k : PUnit.{1} → TP F α} {Q : α → sProp 𝕄} :
    ownAny c b ⊢ iprop((slotPt c c b fullShare G -∗ wp frame (wpE (defs₀ (F := F)) 𝒱₀ c none) Set.univ (k ⟨⟩) Q)
      -∗ wp frame (wpE (defs₀ (F := F)) 𝒱₀ c none) Set.univ
        (.op (.store SM (Rect.unit (s := S4096x128) off S128x128.size inb) w Finset.univ hx hm) k) Q) := by
  subst h hw
  unfold ownAny
  iintro ⟨%f, H⟩ Hk
  unfold slotPt
  iapply (wp_store (m := SM) (r := slotR c b) 𝒱₀ (c : Thread nD τ) none Set.univ (S := (slotM c b).view.set)
    (f := f) (by rw [View.setOn_univ])) $$ H
  iintro H
  iapply Hk
  iapply (Entails.of_eq ((landed G c c b f).trans (by unfold slotPt; rfl))) $$ H

/-! ## Steps at the printed operands -/

theorem sigAt (K : GSem nD τ sig → ℕ) (c : Dev nD) (n : ℕ) (h : n < 7) {d : ℕ} {hd : d < nD}
    (hdev : (⟨d, hd⟩ : Dev nD) = peer c ⟨n, h⟩) {sem : Sem sig} (hsem : sem = barS) {a : ℤ} (ha : a = 1)
    {α : Type} {k : PUnit.{1} → TP F α} {Q : α → sProp 𝕄} {R : sProp 𝕄}
    (hk : iprop(SigSt G K c (n + 1) ∗ R) ⊢ wp frame (wpE (defs₀ (F := F)) 𝒱₀ c none) Set.univ (k ⟨⟩) Q) :
    iprop(SigSt G K c n ∗ R) ⊢ wp frame (wpE (defs₀ (F := F)) 𝒱₀ c none) Set.univ
      (.op (.semSignal ((⟨d, hd⟩ : Dev nD), Proc.tc) sem a) k) Q := by
  subst hsem ha
  iintro ⟨H, HR⟩
  iapply (sig_step G K c n h hdev) $$ H
  iintro H
  iapply hk
  isplitl [H] <;> iassumption

theorem sendAt (K : GSem nD τ sig → ℕ) (c : Dev nD) (n : ℕ) (h : n < 28) (j : Fin 7) (b : Fin 4)
    (hj : jj ⟨n, h⟩ = j) (hb : bb ⟨n, h⟩ = b) {d : ℕ} {hd : d < nD} (hdev : (⟨d, hd⟩ : Dev nD) = peer c j)
    {o₁ o₂ oS oR : Fin 2 → ℕ} (h₁ : o₁ = ![1024 * b.val + 128 * c.val, 0]) (h₂ : o₂ = ![1024 * b.val + 128 * c.val, 0])
    (hS : oS = ![(jj ⟨n, h⟩).val, (bb ⟨n, h⟩).val]) (hR : oR = ![c.val, b.val])
    {i₁ : ∀ a, o₁ a + S128x128.size a ≤ S4096x128.size a} {i₂ : ∀ a, o₂ a + S128x128.size a ≤ S4096x128.size a}
    {iS : ∀ a, oS a + S1x1.size a ≤ S7x4.size a} {iR : ∀ a, oR a + S1x1.size a ≤ S8x4.size a} {e₁} {e₂} {hsrc}
    {hsc : (SM.slice (Rect.unit (s := S4096x128) o₂ S128x128.size i₂) e₂).view.ref.isScScratch = false}
    {hdst : (SM.slice (Rect.unit (s := S4096x128) o₂ S128x128.size i₂) e₂).view.WordExact} {hsem}
    {α : Type} {k : PUnit.{1} → TP F α} {Q : α → sProp 𝕄} {R : sProp 𝕄}
    (hk : iprop(SendSt G K c (n + 1) ∗ R) ⊢ wp frame (wpE (defs₀ (F := F)) 𝒱₀ c none) Set.univ (k ⟨⟩) Q) :
    iprop(SendSt G K c n ∗ R) ⊢ wp frame (wpE (defs₀ (F := F)) 𝒱₀ c none) Set.univ
      (.op (.enqueueDma (s := S128x128) (e := .f32) (SM.slice (Rect.unit (s := S4096x128) o₁ S128x128.size i₁) e₁)
        (.remote (Dev.tc (⟨d, hd⟩ : Dev nD)) (SM.slice (Rect.unit (s := S4096x128) o₂ S128x128.size i₂) e₂)
          (.dma ((cc0_scratch1.slice (Rect.unit (s := S7x4) oS S1x1.size iS)).squeeze S_ squeezes_S1x1_S_).sem) hsc)
        (.dma ((cc0_scratch2.slice (Rect.unit (s := S8x4) oR S1x1.size iR)).squeeze S_ squeezes_S1x1_S_).sem) hsrc hdst hsem) k) Q := by
  subst hj hb
  iintro ⟨H, HR⟩
  iapply (send_step G K c n h hdev (slot_view c (bb ⟨n, h⟩) h₁ i₁ e₁) (slot_view c (bb ⟨n, h⟩) h₂ i₂ e₂) (snd_sem ⟨n, h⟩ hS iS)
    (rcv_sem c (bb ⟨n, h⟩) hR iR)) $$ H
  iintro H
  iapply hk
  isplitl [H] <;> iassumption

theorem rwAt (K : GSem nD τ sig → ℕ) (c : Dev nD) (n : ℕ) (h : n < 28) (j : Fin 7) (b : Fin 4)
    (hj : jj ⟨n, h⟩ = j) (hb : bb ⟨n, h⟩ = b) {o₁ o₂ oR : Fin 2 → ℕ} (hR : oR = ![(peer c j).val, b.val])
    {i₁ : ∀ a, o₁ a + S128x128.size a ≤ S4096x128.size a} {i₂ : ∀ a, o₂ a + S128x128.size a ≤ S4096x128.size a}
    {iR : ∀ a, oR a + S1x1.size a ≤ S8x4.size a} {e₁} {e₂} {hsrc} {hdst}
    {α : Type} {k : PUnit.{1} → TP F α} {Q : α → sProp 𝕄} {R : sProp 𝕄}
    (hk : iprop(RwSt G K c (n + 1) ∗ R) ⊢ wp frame (wpE (defs₀ (F := F)) 𝒱₀ c none) Set.univ (k ⟨⟩) Q) :
    iprop(RwSt G K c n ∗ R) ⊢ wp frame (wpE (defs₀ (F := F)) 𝒱₀ c none) Set.univ
      (.op (.waitDma2 (s := S128x128) (e := .f32) ((cc0_scratch2.slice (Rect.unit (s := S8x4) oR S1x1.size iR)).squeeze S_ squeezes_S1x1_S_).sem
        (SM.slice (Rect.unit (s := S4096x128) o₁ S128x128.size i₁) e₁) (SM.slice (Rect.unit (s := S4096x128) o₂ S128x128.size i₂) e₂)
        hsrc hdst) k) Q := by
  subst hj hb
  iintro ⟨H, HR⟩
  iapply (rw_step G K c n h (rcv_sem (src c ⟨n, h⟩) (bb ⟨n, h⟩) hR iR) (credit o₂ i₂ e₂)) $$ H
  iintro H
  iapply hk
  isplitl [H] <;> iassumption

theorem swAt (K : GSem nD τ sig → ℕ) (c : Dev nD) (n : ℕ) (h : n < 28) {o₁ o₂ oS : Fin 2 → ℕ}
    (hS : oS = ![(jj ⟨n, h⟩).val, (bb ⟨n, h⟩).val])
    {i₁ : ∀ a, o₁ a + S128x128.size a ≤ S4096x128.size a} {i₂ : ∀ a, o₂ a + S128x128.size a ≤ S4096x128.size a}
    {iS : ∀ a, oS a + S1x1.size a ≤ S7x4.size a} {e₁} {e₂} {hsrc} {hdst}
    {α : Type} {k : PUnit.{1} → TP F α} {Q : α → sProp 𝕄} {R : sProp 𝕄}
    (hk : iprop(SwSt G K c (n + 1) ∗ R) ⊢ wp frame (wpE (defs₀ (F := F)) 𝒱₀ c none) Set.univ (k ⟨⟩) Q) :
    iprop(SwSt G K c n ∗ R) ⊢ wp frame (wpE (defs₀ (F := F)) 𝒱₀ c none) Set.univ
      (.op (.waitDma2 (s := S128x128) (e := .f32) ((cc0_scratch1.slice (Rect.unit (s := S7x4) oS S1x1.size iS)).squeeze S_ squeezes_S1x1_S_).sem
        (SM.slice (Rect.unit (s := S4096x128) o₁ S128x128.size i₁) e₁) (SM.slice (Rect.unit (s := S4096x128) o₂ S128x128.size i₂) e₂)
        hsrc hdst) k) Q := by
  iintro ⟨H, HR⟩
  iapply (sw_step G K c n h (snd_sem ⟨n, h⟩ hS iS) (credit o₂ i₂ e₂)) $$ H
  iintro H
  iapply hk
  isplitl [H] <;> iassumption

/-- The end of a part. -/
theorem endAt (c : Dev nD) {α : Type} {v : α} {S : sProp 𝕄} {Kt : α → sProp 𝕄} :
    iprop(S ∗ (∀ r, S -∗ Kt r)) ⊢ wp frame (wpE (defs₀ (F := F)) 𝒱₀ c none) Set.univ (.ret v) Kt := by
  rw [wp_ret]
  iintro ⟨H, Hk⟩
  imodintro
  iapply Hk
  iexact H

end Cert.KernelIdeal.Own

end
-- ==== Proof.Parts.lean ====
/-
  The printed body in the parts it is printed in: which steps each part makes.
-/
module

public import proofs.«01_k».proof.Proof.Facts
public import proofs.«01_k».proof.Proof.Gen.KernelIdeal.Skeleton

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
local notation "𝕄" => MT nD τ sig Unit (Elt F) ℕ UU ℕ
variable (G : GBuf F)

set_option maxRecDepth 4000

/-- A part's weakest precondition on core `c`. -/
abbrev WP (c : Dev nD) {α : Type} (p : TP F α) (Q : α → sProp 𝕄) : sProp 𝕄 :=
  wp frame (wpE (defs₀ (F := F)) 𝒱₀ c none) Set.univ p Q

/-- Part 1: raises 0 to 1. -/
theorem p1 (K : GSem nD τ sig → ℕ) (c : Dev nD) {Kt : _ → sProp 𝕄} :
    iprop(SigSt G K c 0 ∗ (∀ (a b : BitVec 32), SigSt G K c 2 -∗ Kt ⟨c, a, SemArray.scalar (sig.barrier 0 rfl), b⟩))
      ⊢ WP c (k0_part1 (F := F) A0 hA A1 hA A2 hA A3 hA A4 hA SM hA cc0_scratch1 cc0_scratch2) Kt := by
  rw [k0_part1_eq_skeleton]
  unfold k0_part1_skel
  simp only [Prog.lift, Prog.bind_op, Prog.bind_ret, Prog.pure_eq_ret, semSignalWord, semWaitWord]
  refine BIBase.Entails.trans ?_ (Entails.of_eq (wp_deviceId 𝒱₀ (c : Thread nD τ) none Set.univ).symm)
  refine sigAt G K c 0 (by decide) (dev1 c) rfl rfl ?_
  refine sigAt G K c 1 (by decide) (dev2 c) rfl rfl ?_
  rw [wp_ret]
  iintro ⟨H, Hk⟩
  imodintro
  iapply Hk; iexact H

/-- Part 2: raises 2 to 3. -/
theorem p2 (K : GSem nD τ sig → ℕ) (c : Dev nD) (v2 : BitVec 32) (c1_i32_21 : BitVec 32) {Kt : _ → sProp 𝕄} :
    iprop(SigSt G K c 2 ∗ (∀ r, SigSt G K c 4 -∗ Kt r))
      ⊢ WP c (k0_part2 (F := F) A0 hA A1 hA A2 hA A3 hA A4 hA SM hA cc0_scratch1 cc0_scratch2 c v2 (SemArray.scalar (sig.barrier 0 rfl)) c1_i32_21) Kt := by
  rw [k0_part2_eq_skeleton]
  unfold k0_part2_skel
  simp only [Prog.lift, Prog.bind_op, Prog.bind_ret, Prog.pure_eq_ret, semSignalWord, semWaitWord]
  refine sigAt G K c 2 (by decide) (dev3 c) rfl rfl ?_
  refine sigAt G K c 3 (by decide) (dev4 c) rfl rfl ?_
  exact endAt c

/-- Part 3: raises 4 to 5. -/
theorem p3 (K : GSem nD τ sig → ℕ) (c : Dev nD) (v2 : BitVec 32) (v61 : BitVec 32) (v63 : BitVec 32) {Kt : _ → sProp 𝕄} :
    iprop(SigSt G K c 4 ∗ (∀ r, SigSt G K c 6 -∗ Kt r))
      ⊢ WP c (k0_part3 (F := F) A0 hA A1 hA A2 hA A3 hA A4 hA SM hA cc0_scratch1 cc0_scratch2 c v2 (SemArray.scalar (sig.barrier 0 rfl)) v61 v63) Kt := by
  rw [k0_part3_eq_skeleton]
  unfold k0_part3_skel
  simp only [Prog.lift, Prog.bind_op, Prog.bind_ret, Prog.pure_eq_ret, semSignalWord, semWaitWord]
  refine sigAt G K c 4 (by decide) (dev5 c) rfl rfl ?_
  refine sigAt G K c 5 (by decide) (dev6 c) rfl rfl ?_
  exact endAt c

/-- Part 6: copies 1 to 2. -/
theorem p6 (K : GSem nD τ sig → ℕ) (c : Dev nD) (v2 : BitVec 32) (v145 : BitVec 32) {Kt : _ → sProp 𝕄} :
    iprop(SendSt G K c 1 ∗ (∀ r, SendSt G K c 3 -∗ Kt r))
      ⊢ WP c (k0_part6 (F := F) A0 hA A1 hA A2 hA A3 hA A4 hA SM hA cc0_scratch1 cc0_scratch2 c v2 v145) Kt := by
  rw [k0_part6_eq_skeleton]
  unfold k0_part6_skel
  simp only [Prog.lift, Prog.bind_op, Prog.bind_ret, Prog.pure_eq_ret, semSignalWord, semWaitWord]
  refine sendAt G K c 1 (by decide) 0 1 rfl rfl ?_ ?_ ?_ ?_ ?_ ?_
  · exact dev9 c
  · exact k0_off3_eq c 1
  · exact k0_off3_eq c 1
  · rfl
  · exact k0_off4_eq c
  refine sendAt G K c 2 (by decide) 0 2 rfl rfl ?_ ?_ ?_ ?_ ?_ ?_
  · exact dev10 c
  · exact k0_off3_eq c 2
  · exact k0_off3_eq c 2
  · rfl
  · exact k0_off5_eq c
  exact endAt c

/-- Part 7: copies 3 to 4. -/
theorem p7 (K : GSem nD τ sig → ℕ) (c : Dev nD) (v2 : BitVec 32) {Kt : _ → sProp 𝕄} :
    iprop(SendSt G K c 3 ∗ (∀ r, SendSt G K c 5 -∗ Kt r))
      ⊢ WP c (k0_part7 (F := F) A0 hA A1 hA A2 hA A3 hA A4 hA SM hA cc0_scratch1 cc0_scratch2 c v2) Kt := by
  rw [k0_part7_eq_skeleton]
  unfold k0_part7_skel
  simp only [Prog.lift, Prog.bind_op, Prog.bind_ret, Prog.pure_eq_ret, semSignalWord, semWaitWord]
  refine sendAt G K c 3 (by decide) 0 3 rfl rfl ?_ ?_ ?_ ?_ ?_ ?_
  · exact dev11 c
  · exact k0_off3_eq c 3
  · exact k0_off3_eq c 3
  · rfl
  · exact k0_off6_eq c
  refine sendAt G K c 4 (by decide) 1 0 rfl rfl ?_ ?_ ?_ ?_ ?_ ?_
  · exact dev12 c
  · exact k0_off3_eq c 0
  · exact k0_off3_eq c 0
  · rfl
  · exact k0_off2_eq c
  exact endAt c

/-- Part 8: copies 5 to 7. -/
theorem p8 (K : GSem nD τ sig → ℕ) (c : Dev nD) (v2 : BitVec 32) (v205 : BitVec 32) (c1_i32_161 : BitVec 32) {Kt : _ → sProp 𝕄} :
    iprop(SendSt G K c 5 ∗ (∀ r, SendSt G K c 8 -∗ Kt r))
      ⊢ WP c (k0_part8 (F := F) A0 hA A1 hA A2 hA A3 hA A4 hA SM hA cc0_scratch1 cc0_scratch2 c v2 v205 c1_i32_161) Kt := by
  rw [k0_part8_eq_skeleton]
  unfold k0_part8_skel
  simp only [Prog.lift, Prog.bind_op, Prog.bind_ret, Prog.pure_eq_ret, semSignalWord, semWaitWord]
  refine sendAt G K c 5 (by decide) 1 1 rfl rfl ?_ ?_ ?_ ?_ ?_ ?_
  · exact dev13 c
  · exact k0_off3_eq c 1
  · exact k0_off3_eq c 1
  · rfl
  · exact k0_off4_eq c
  refine sendAt G K c 6 (by decide) 1 2 rfl rfl ?_ ?_ ?_ ?_ ?_ ?_
  · exact dev14 c
  · exact k0_off3_eq c 2
  · exact k0_off3_eq c 2
  · rfl
  · exact k0_off5_eq c
  refine sendAt G K c 7 (by decide) 1 3 rfl rfl ?_ ?_ ?_ ?_ ?_ ?_
  · exact dev15 c
  · exact k0_off3_eq c 3
  · exact k0_off3_eq c 3
  · rfl
  · exact k0_off6_eq c
  exact endAt c

/-- Part 9: copies 8 to 8. -/
theorem p9 (K : GSem nD τ sig → ℕ) (c : Dev nD) (v2 : BitVec 32) {Kt : _ → sProp 𝕄} :
    iprop(SendSt G K c 8 ∗ (∀ r, SendSt G K c 9 -∗ Kt r))
      ⊢ WP c (k0_part9 (F := F) A0 hA A1 hA A2 hA A3 hA A4 hA SM hA cc0_scratch1 cc0_scratch2 c v2) Kt := by
  rw [k0_part9_eq_skeleton]
  unfold k0_part9_skel
  simp only [Prog.lift, Prog.bind_op, Prog.bind_ret, Prog.pure_eq_ret, semSignalWord, semWaitWord]
  refine sendAt G K c 8 (by decide) 2 0 rfl rfl ?_ ?_ ?_ ?_ ?_ ?_
  · exact dev16 c
  · exact k0_off3_eq c 0
  · exact k0_off3_eq c 0
  · rfl
  · exact k0_off2_eq c
  exact endAt c

/-- Part 10: copies 9 to 11. -/
theorem p10 (K : GSem nD τ sig → ℕ) (c : Dev nD) (v2 : BitVec 32) (v265 : BitVec 32) {Kt : _ → sProp 𝕄} :
    iprop(SendSt G K c 9 ∗ (∀ r, SendSt G K c 12 -∗ Kt r))
      ⊢ WP c (k0_part10 (F := F) A0 hA A1 hA A2 hA A3 hA A4 hA SM hA cc0_scratch1 cc0_scratch2 c v2 v265) Kt := by
  rw [k0_part10_eq_skeleton]
  unfold k0_part10_skel
  simp only [Prog.lift, Prog.bind_op, Prog.bind_ret, Prog.pure_eq_ret, semSignalWord, semWaitWord]
  refine sendAt G K c 9 (by decide) 2 1 rfl rfl ?_ ?_ ?_ ?_ ?_ ?_
  · exact dev17 c
  · exact k0_off3_eq c 1
  · exact k0_off3_eq c 1
  · rfl
  · exact k0_off4_eq c
  refine sendAt G K c 10 (by decide) 2 2 rfl rfl ?_ ?_ ?_ ?_ ?_ ?_
  · exact dev18 c
  · exact k0_off3_eq c 2
  · exact k0_off3_eq c 2
  · rfl
  · exact k0_off5_eq c
  refine sendAt G K c 11 (by decide) 2 3 rfl rfl ?_ ?_ ?_ ?_ ?_ ?_
  · exact dev19 c
  · exact k0_off3_eq c 3
  · exact k0_off3_eq c 3
  · rfl
  · exact k0_off6_eq c
  exact endAt c

/-- Part 11: copies 12 to 12. -/
theorem p11 (K : GSem nD τ sig → ℕ) (c : Dev nD) (v2 : BitVec 32) (v315 : BitVec 32) {Kt : _ → sProp 𝕄} :
    iprop(SendSt G K c 12 ∗ (∀ r, SendSt G K c 13 -∗ Kt r))
      ⊢ WP c (k0_part11 (F := F) A0 hA A1 hA A2 hA A3 hA A4 hA SM hA cc0_scratch1 cc0_scratch2 c v2 v315) Kt := by
  rw [k0_part11_eq_skeleton]
  unfold k0_part11_skel
  simp only [Prog.lift, Prog.bind_op, Prog.bind_ret, Prog.pure_eq_ret, semSignalWord, semWaitWord]
  refine sendAt G K c 12 (by decide) 3 0 rfl rfl ?_ ?_ ?_ ?_ ?_ ?_
  · exact dev20 c
  · exact k0_off3_eq c 0
  · exact k0_off3_eq c 0
  · rfl
  · exact k0_off2_eq c
  exact endAt c

/-- Part 12: copies 13 to 15. -/
theorem p12 (K : GSem nD τ sig → ℕ) (c : Dev nD) (v2 : BitVec 32) (v325 : BitVec 32) {Kt : _ → sProp 𝕄} :
    iprop(SendSt G K c 13 ∗ (∀ r, SendSt G K c 16 -∗ Kt r))
      ⊢ WP c (k0_part12 (F := F) A0 hA A1 hA A2 hA A3 hA A4 hA SM hA cc0_scratch1 cc0_scratch2 c v2 v325) Kt := by
  rw [k0_part12_eq_skeleton]
  unfold k0_part12_skel
  simp only [Prog.lift, Prog.bind_op, Prog.bind_ret, Prog.pure_eq_ret, semSignalWord, semWaitWord]
  refine sendAt G K c 13 (by decide) 3 1 rfl rfl ?_ ?_ ?_ ?_ ?_ ?_
  · exact dev21 c
  · exact k0_off3_eq c 1
  · exact k0_off3_eq c 1
  · rfl
  · exact k0_off4_eq c
  refine sendAt G K c 14 (by decide) 3 2 rfl rfl ?_ ?_ ?_ ?_ ?_ ?_
  · exact dev22 c
  · exact k0_off3_eq c 2
  · exact k0_off3_eq c 2
  · rfl
  · exact k0_off5_eq c
  refine sendAt G K c 15 (by decide) 3 3 rfl rfl ?_ ?_ ?_ ?_ ?_ ?_
  · exact dev23 c
  · exact k0_off3_eq c 3
  · exact k0_off3_eq c 3
  · rfl
  · exact k0_off6_eq c
  exact endAt c

/-- Part 13: copies 16 to 17. -/
theorem p13 (K : GSem nD τ sig → ℕ) (c : Dev nD) (v2 : BitVec 32) (v375 : BitVec 32) (c8_i32_293 : BitVec 32) (v376 : BitVec 1) (c1_i32_295 : BitVec 32) {Kt : _ → sProp 𝕄} :
    iprop(SendSt G K c 16 ∗ (∀ r, SendSt G K c 18 -∗ Kt r))
      ⊢ WP c (k0_part13 (F := F) A0 hA A1 hA A2 hA A3 hA A4 hA SM hA cc0_scratch1 cc0_scratch2 c v2 v375 c8_i32_293 v376 c1_i32_295) Kt := by
  rw [k0_part13_eq_skeleton]
  unfold k0_part13_skel
  simp only [Prog.lift, Prog.bind_op, Prog.bind_ret, Prog.pure_eq_ret, semSignalWord, semWaitWord]
  refine sendAt G K c 16 (by decide) 4 0 rfl rfl ?_ ?_ ?_ ?_ ?_ ?_
  · exact dev24 c
  · exact k0_off3_eq c 0
  · exact k0_off3_eq c 0
  · rfl
  · exact k0_off2_eq c
  refine sendAt G K c 17 (by decide) 4 1 rfl rfl ?_ ?_ ?_ ?_ ?_ ?_
  · exact dev25 c
  · exact k0_off3_eq c 1
  · exact k0_off3_eq c 1
  · rfl
  · exact k0_off4_eq c
  exact endAt c

/-- Part 14: copies 18 to 19. -/
theorem p14 (K : GSem nD τ sig → ℕ) (c : Dev nD) (v2 : BitVec 32) (v385 : BitVec 32) {Kt : _ → sProp 𝕄} :
    iprop(SendSt G K c 18 ∗ (∀ r, SendSt G K c 20 -∗ Kt r))
      ⊢ WP c (k0_part14 (F := F) A0 hA A1 hA A2 hA A3 hA A4 hA SM hA cc0_scratch1 cc0_scratch2 c v2 v385) Kt := by
  rw [k0_part14_eq_skeleton]
  unfold k0_part14_skel
  simp only [Prog.lift, Prog.bind_op, Prog.bind_ret, Prog.pure_eq_ret, semSignalWord, semWaitWord]
  refine sendAt G K c 18 (by decide) 4 2 rfl rfl ?_ ?_ ?_ ?_ ?_ ?_
  · exact dev26 c
  · exact k0_off3_eq c 2
  · exact k0_off3_eq c 2
  · rfl
  · exact k0_off5_eq c
  refine sendAt G K c 19 (by decide) 4 3 rfl rfl ?_ ?_ ?_ ?_ ?_ ?_
  · exact dev27 c
  · exact k0_off3_eq c 3
  · exact k0_off3_eq c 3
  · rfl
  · exact k0_off6_eq c
  exact endAt c

/-- Part 15: copies 20 to 21. -/
theorem p15 (K : GSem nD τ sig → ℕ) (c : Dev nD) (v2 : BitVec 32) (v437 : BitVec 32) (v438 : BitVec 32) (v439 : BitVec 1) {Kt : _ → sProp 𝕄} :
    iprop(SendSt G K c 20 ∗ (∀ r, SendSt G K c 22 -∗ Kt r))
      ⊢ WP c (k0_part15 (F := F) A0 hA A1 hA A2 hA A3 hA A4 hA SM hA cc0_scratch1 cc0_scratch2 c v2 v437 v438 v439) Kt := by
  rw [k0_part15_eq_skeleton]
  unfold k0_part15_skel
  simp only [Prog.lift, Prog.bind_op, Prog.bind_ret, Prog.pure_eq_ret, semSignalWord, semWaitWord]
  refine sendAt G K c 20 (by decide) 5 0 rfl rfl ?_ ?_ ?_ ?_ ?_ ?_
  · exact dev28 c
  · exact k0_off3_eq c 0
  · exact k0_off3_eq c 0
  · rfl
  · exact k0_off2_eq c
  refine sendAt G K c 21 (by decide) 5 1 rfl rfl ?_ ?_ ?_ ?_ ?_ ?_
  · exact dev29 c
  · exact k0_off3_eq c 1
  · exact k0_off3_eq c 1
  · rfl
  · exact k0_off4_eq c
  exact endAt c

/-- Part 16: copies 22 to 23. -/
theorem p16 (K : GSem nD τ sig → ℕ) (c : Dev nD) (v2 : BitVec 32) (v445 : BitVec 32) {Kt : _ → sProp 𝕄} :
    iprop(SendSt G K c 22 ∗ (∀ r, SendSt G K c 24 -∗ Kt r))
      ⊢ WP c (k0_part16 (F := F) A0 hA A1 hA A2 hA A3 hA A4 hA SM hA cc0_scratch1 cc0_scratch2 c v2 v445) Kt := by
  rw [k0_part16_eq_skeleton]
  unfold k0_part16_skel
  simp only [Prog.lift, Prog.bind_op, Prog.bind_ret, Prog.pure_eq_ret, semSignalWord, semWaitWord]
  refine sendAt G K c 22 (by decide) 5 2 rfl rfl ?_ ?_ ?_ ?_ ?_ ?_
  · exact dev30 c
  · exact k0_off3_eq c 2
  · exact k0_off3_eq c 2
  · rfl
  · exact k0_off5_eq c
  refine sendAt G K c 23 (by decide) 5 3 rfl rfl ?_ ?_ ?_ ?_ ?_ ?_
  · exact dev31 c
  · exact k0_off3_eq c 3
  · exact k0_off3_eq c 3
  · rfl
  · exact k0_off6_eq c
  exact endAt c

/-- Part 17: copies 24 to 25. -/
theorem p17 (K : GSem nD τ sig → ℕ) (c : Dev nD) (v2 : BitVec 32) (v497 : BitVec 32) (v498 : BitVec 32) (v499 : BitVec 1) (v500 : BitVec 1) (v501 : BitVec 1) {Kt : _ → sProp 𝕄} :
    iprop(SendSt G K c 24 ∗ (∀ r, SendSt G K c 26 -∗ Kt r))
      ⊢ WP c (k0_part17 (F := F) A0 hA A1 hA A2 hA A3 hA A4 hA SM hA cc0_scratch1 cc0_scratch2 c v2 v497 v498 v499 v500 v501) Kt := by
  rw [k0_part17_eq_skeleton]
  unfold k0_part17_skel
  simp only [Prog.lift, Prog.bind_op, Prog.bind_ret, Prog.pure_eq_ret, semSignalWord, semWaitWord]
  refine sendAt G K c 24 (by decide) 6 0 rfl rfl ?_ ?_ ?_ ?_ ?_ ?_
  · exact dev32 c
  · exact k0_off3_eq c 0
  · exact k0_off3_eq c 0
  · rfl
  · exact k0_off2_eq c
  refine sendAt G K c 25 (by decide) 6 1 rfl rfl ?_ ?_ ?_ ?_ ?_ ?_
  · exact dev33 c
  · exact k0_off3_eq c 1
  · exact k0_off3_eq c 1
  · rfl
  · exact k0_off4_eq c
  exact endAt c

/-- Part 19: waits for copies in 0 to 1. -/
theorem p19 (K : GSem nD τ sig → ℕ) (c : Dev nD) (v2 : BitVec 32) (v562 : BitVec 32) (v563 : BitVec 32) {Kt : _ → sProp 𝕄} :
    iprop(RwSt G K c 0 ∗ (∀ r, RwSt G K c 2 -∗ Kt r))
      ⊢ WP c (k0_part19 (F := F) A0 hA A1 hA A2 hA A3 hA A4 hA SM hA cc0_scratch1 cc0_scratch2 c v2 v562 v563) Kt := by
  rw [k0_part19_eq_skeleton]
  unfold k0_part19_skel
  simp only [Prog.lift, Prog.bind_op, Prog.bind_ret, Prog.pure_eq_ret, semSignalWord, semWaitWord]
  refine rwAt G K c 0 (by decide) 0 0 rfl rfl (off7 c 0) ?_
  refine rwAt G K c 1 (by decide) 0 1 rfl rfl (off9 c 0) ?_
  exact endAt c

/-- Part 20: waits for copies in 2 to 3. -/
theorem p20 (K : GSem nD τ sig → ℕ) (c : Dev nD) (v2 : BitVec 32) (v570 : BitVec 32) (v593 : BitVec 32) {Kt : _ → sProp 𝕄} :
    iprop(RwSt G K c 2 ∗ (∀ r, RwSt G K c 4 -∗ Kt r))
      ⊢ WP c (k0_part20 (F := F) A0 hA A1 hA A2 hA A3 hA A4 hA SM hA cc0_scratch1 cc0_scratch2 c v2 v570 v593) Kt := by
  rw [k0_part20_eq_skeleton]
  unfold k0_part20_skel
  simp only [Prog.lift, Prog.bind_op, Prog.bind_ret, Prog.pure_eq_ret, semSignalWord, semWaitWord]
  refine rwAt G K c 2 (by decide) 0 2 rfl rfl (off10 c 0) ?_
  refine rwAt G K c 3 (by decide) 0 3 rfl rfl (off11 c 0) ?_
  exact endAt c

/-- Part 21: waits for copies in 4 to 5. -/
theorem p21 (K : GSem nD τ sig → ℕ) (c : Dev nD) (v2 : BitVec 32) (v622 : BitVec 32) (v623 : BitVec 32) {Kt : _ → sProp 𝕄} :
    iprop(RwSt G K c 4 ∗ (∀ r, RwSt G K c 6 -∗ Kt r))
      ⊢ WP c (k0_part21 (F := F) A0 hA A1 hA A2 hA A3 hA A4 hA SM hA cc0_scratch1 cc0_scratch2 c v2 v622 v623) Kt := by
  rw [k0_part21_eq_skeleton]
  unfold k0_part21_skel
  simp only [Prog.lift, Prog.bind_op, Prog.bind_ret, Prog.pure_eq_ret, semSignalWord, semWaitWord]
  refine rwAt G K c 4 (by decide) 1 0 rfl rfl (off7 c 1) ?_
  refine rwAt G K c 5 (by decide) 1 1 rfl rfl (off9 c 1) ?_
  exact endAt c

/-- Part 22: waits for copies in 6 to 7. -/
theorem p22 (K : GSem nD τ sig → ℕ) (c : Dev nD) (v2 : BitVec 32) (v622 : BitVec 32) {Kt : _ → sProp 𝕄} :
    iprop(RwSt G K c 6 ∗ (∀ r, RwSt G K c 8 -∗ Kt r))
      ⊢ WP c (k0_part22 (F := F) A0 hA A1 hA A2 hA A3 hA A4 hA SM hA cc0_scratch1 cc0_scratch2 c v2 v622) Kt := by
  rw [k0_part22_eq_skeleton]
  unfold k0_part22_skel
  simp only [Prog.lift, Prog.bind_op, Prog.bind_ret, Prog.pure_eq_ret, semSignalWord, semWaitWord]
  refine rwAt G K c 6 (by decide) 1 2 rfl rfl (off10 c 1) ?_
  refine rwAt G K c 7 (by decide) 1 3 rfl rfl (off11 c 1) ?_
  exact endAt c

/-- Part 23: waits for copies in 8 to 10. -/
theorem p23 (K : GSem nD τ sig → ℕ) (c : Dev nD) (v2 : BitVec 32) (v674 : BitVec 32) (v679 : BitVec 32) (c0_i32_571 : BitVec 32) {Kt : _ → sProp 𝕄} :
    iprop(RwSt G K c 8 ∗ (∀ r, RwSt G K c 11 -∗ Kt r))
      ⊢ WP c (k0_part23 (F := F) A0 hA A1 hA A2 hA A3 hA A4 hA SM hA cc0_scratch1 cc0_scratch2 c v2 v674 v679 c0_i32_571) Kt := by
  rw [k0_part23_eq_skeleton]
  unfold k0_part23_skel
  simp only [Prog.lift, Prog.bind_op, Prog.bind_ret, Prog.pure_eq_ret, semSignalWord, semWaitWord]
  refine rwAt G K c 8 (by decide) 2 0 rfl rfl (off7 c 2) ?_
  refine rwAt G K c 9 (by decide) 2 1 rfl rfl (off9 c 2) ?_
  refine rwAt G K c 10 (by decide) 2 2 rfl rfl (off10 c 2) ?_
  exact endAt c

/-- Part 24: waits for copies in 11 to 12. -/
theorem p24 (K : GSem nD τ sig → ℕ) (c : Dev nD) (v2 : BitVec 32) {Kt : _ → sProp 𝕄} :
    iprop(RwSt G K c 11 ∗ (∀ r, RwSt G K c 13 -∗ Kt r))
      ⊢ WP c (k0_part24 (F := F) A0 hA A1 hA A2 hA A3 hA A4 hA SM hA cc0_scratch1 cc0_scratch2 c v2) Kt := by
  rw [k0_part24_eq_skeleton]
  unfold k0_part24_skel
  simp only [Prog.lift, Prog.bind_op, Prog.bind_ret, Prog.pure_eq_ret, semSignalWord, semWaitWord]
  refine rwAt G K c 11 (by decide) 2 3 rfl rfl (off11 c 2) ?_
  refine rwAt G K c 12 (by decide) 3 0 rfl rfl (off7 c 3) ?_
  exact endAt c

/-- Part 25: waits for copies in 13 to 14. -/
theorem p25 (K : GSem nD τ sig → ℕ) (c : Dev nD) (v2 : BitVec 32) (v726 : BitVec 32) {Kt : _ → sProp 𝕄} :
    iprop(RwSt G K c 13 ∗ (∀ r, RwSt G K c 15 -∗ Kt r))
      ⊢ WP c (k0_part25 (F := F) A0 hA A1 hA A2 hA A3 hA A4 hA SM hA cc0_scratch1 cc0_scratch2 c v2 v726) Kt := by
  rw [k0_part25_eq_skeleton]
  unfold k0_part25_skel
  simp only [Prog.lift, Prog.bind_op, Prog.bind_ret, Prog.pure_eq_ret, semSignalWord, semWaitWord]
  refine rwAt G K c 13 (by decide) 3 1 rfl rfl (off9 c 3) ?_
  refine rwAt G K c 14 (by decide) 3 2 rfl rfl (off10 c 3) ?_
  exact endAt c

/-- Part 26: waits for copies in 15 to 16. -/
theorem p26 (K : GSem nD τ sig → ℕ) (c : Dev nD) (v2 : BitVec 32) {Kt : _ → sProp 𝕄} :
    iprop(RwSt G K c 15 ∗ (∀ r, RwSt G K c 17 -∗ Kt r))
      ⊢ WP c (k0_part26 (F := F) A0 hA A1 hA A2 hA A3 hA A4 hA SM hA cc0_scratch1 cc0_scratch2 c v2) Kt := by
  rw [k0_part26_eq_skeleton]
  unfold k0_part26_skel
  simp only [Prog.lift, Prog.bind_op, Prog.bind_ret, Prog.pure_eq_ret, semSignalWord, semWaitWord]
  refine rwAt G K c 15 (by decide) 3 3 rfl rfl (off11 c 3) ?_
  refine rwAt G K c 16 (by decide) 4 0 rfl rfl (off7 c 4) ?_
  exact endAt c

/-- Part 27: waits for copies in 17 to 19. -/
theorem p27 (K : GSem nD τ sig → ℕ) (c : Dev nD) (v2 : BitVec 32) (v778 : BitVec 32) {Kt : _ → sProp 𝕄} :
    iprop(RwSt G K c 17 ∗ (∀ r, RwSt G K c 20 -∗ Kt r))
      ⊢ WP c (k0_part27 (F := F) A0 hA A1 hA A2 hA A3 hA A4 hA SM hA cc0_scratch1 cc0_scratch2 c v2 v778) Kt := by
  rw [k0_part27_eq_skeleton]
  unfold k0_part27_skel
  simp only [Prog.lift, Prog.bind_op, Prog.bind_ret, Prog.pure_eq_ret, semSignalWord, semWaitWord]
  refine rwAt G K c 17 (by decide) 4 1 rfl rfl (off9 c 4) ?_
  refine rwAt G K c 18 (by decide) 4 2 rfl rfl (off10 c 4) ?_
  refine rwAt G K c 19 (by decide) 4 3 rfl rfl (off11 c 4) ?_
  exact endAt c

/-- Part 28: waits for copies in 20 to 21. -/
theorem p28 (K : GSem nD τ sig → ℕ) (c : Dev nD) (v2 : BitVec 32) (v822 : BitVec 32) (v823 : BitVec 32) {Kt : _ → sProp 𝕄} :
    iprop(RwSt G K c 20 ∗ (∀ r, RwSt G K c 22 -∗ Kt r))
      ⊢ WP c (k0_part28 (F := F) A0 hA A1 hA A2 hA A3 hA A4 hA SM hA cc0_scratch1 cc0_scratch2 c v2 v822 v823) Kt := by
  rw [k0_part28_eq_skeleton]
  unfold k0_part28_skel
  simp only [Prog.lift, Prog.bind_op, Prog.bind_ret, Prog.pure_eq_ret, semSignalWord, semWaitWord]
  refine rwAt G K c 20 (by decide) 5 0 rfl rfl (off7 c 5) ?_
  refine rwAt G K c 21 (by decide) 5 1 rfl rfl (off9 c 5) ?_
  exact endAt c

/-- Part 29: waits for copies in 22 to 23. -/
theorem p29 (K : GSem nD τ sig → ℕ) (c : Dev nD) (v2 : BitVec 32) (v830 : BitVec 32) (v853 : BitVec 32) {Kt : _ → sProp 𝕄} :
    iprop(RwSt G K c 22 ∗ (∀ r, RwSt G K c 24 -∗ Kt r))
      ⊢ WP c (k0_part29 (F := F) A0 hA A1 hA A2 hA A3 hA A4 hA SM hA cc0_scratch1 cc0_scratch2 c v2 v830 v853) Kt := by
  rw [k0_part29_eq_skeleton]
  unfold k0_part29_skel
  simp only [Prog.lift, Prog.bind_op, Prog.bind_ret, Prog.pure_eq_ret, semSignalWord, semWaitWord]
  refine rwAt G K c 22 (by decide) 5 2 rfl rfl (off10 c 5) ?_
  refine rwAt G K c 23 (by decide) 5 3 rfl rfl (off11 c 5) ?_
  exact endAt c

/-- Part 30: waits for copies in 24 to 25. -/
theorem p30 (K : GSem nD τ sig → ℕ) (c : Dev nD) (v2 : BitVec 32) (v882 : BitVec 32) (v883 : BitVec 32) {Kt : _ → sProp 𝕄} :
    iprop(RwSt G K c 24 ∗ (∀ r, RwSt G K c 26 -∗ Kt r))
      ⊢ WP c (k0_part30 (F := F) A0 hA A1 hA A2 hA A3 hA A4 hA SM hA cc0_scratch1 cc0_scratch2 c v2 v882 v883) Kt := by
  rw [k0_part30_eq_skeleton]
  unfold k0_part30_skel
  simp only [Prog.lift, Prog.bind_op, Prog.bind_ret, Prog.pure_eq_ret, semSignalWord, semWaitWord]
  refine rwAt G K c 24 (by decide) 6 0 rfl rfl (off7 c 6) ?_
  refine rwAt G K c 25 (by decide) 6 1 rfl rfl (off9 c 6) ?_
  exact endAt c

/-- Part 34: waits for copies out 0 to 5. -/
theorem p34 (K : GSem nD τ sig → ℕ) (c : Dev nD) {Kt : _ → sProp 𝕄} :
    iprop(SwSt G K c 0 ∗ (∀ r, SwSt G K c 6 -∗ Kt r))
      ⊢ WP c (k0_part34 (F := F) A0 hA A1 hA A2 hA A3 hA A4 hA SM hA cc0_scratch1 cc0_scratch2 c) Kt := by
  rw [k0_part34_eq_skeleton]
  unfold k0_part34_skel
  simp only [Prog.lift, Prog.bind_op, Prog.bind_ret, Prog.pure_eq_ret, semSignalWord, semWaitWord]
  refine swAt G K c 0 (by decide) ?_ ?_
  · rfl
  refine swAt G K c 1 (by decide) ?_ ?_
  · rfl
  refine swAt G K c 2 (by decide) ?_ ?_
  · rfl
  refine swAt G K c 3 (by decide) ?_ ?_
  · rfl
  refine swAt G K c 4 (by decide) ?_ ?_
  · rfl
  refine swAt G K c 5 (by decide) ?_ ?_
  · rfl
  exact endAt c

/-- Part 35: waits for copies out 6 to 10. -/
theorem p35 (K : GSem nD τ sig → ℕ) (c : Dev nD) {Kt : _ → sProp 𝕄} :
    iprop(SwSt G K c 6 ∗ (∀ r, SwSt G K c 11 -∗ Kt r))
      ⊢ WP c (k0_part35 (F := F) A0 hA A1 hA A2 hA A3 hA A4 hA SM hA cc0_scratch1 cc0_scratch2 c) Kt := by
  rw [k0_part35_eq_skeleton]
  unfold k0_part35_skel
  simp only [Prog.lift, Prog.bind_op, Prog.bind_ret, Prog.pure_eq_ret, semSignalWord, semWaitWord]
  refine swAt G K c 6 (by decide) ?_ ?_
  · rfl
  refine swAt G K c 7 (by decide) ?_ ?_
  · rfl
  refine swAt G K c 8 (by decide) ?_ ?_
  · rfl
  refine swAt G K c 9 (by decide) ?_ ?_
  · rfl
  refine swAt G K c 10 (by decide) ?_ ?_
  · rfl
  exact endAt c

/-- Part 36: waits for copies out 11 to 16. -/
theorem p36 (K : GSem nD τ sig → ℕ) (c : Dev nD) {Kt : _ → sProp 𝕄} :
    iprop(SwSt G K c 11 ∗ (∀ r, SwSt G K c 17 -∗ Kt r))
      ⊢ WP c (k0_part36 (F := F) A0 hA A1 hA A2 hA A3 hA A4 hA SM hA cc0_scratch1 cc0_scratch2 c) Kt := by
  rw [k0_part36_eq_skeleton]
  unfold k0_part36_skel
  simp only [Prog.lift, Prog.bind_op, Prog.bind_ret, Prog.pure_eq_ret, semSignalWord, semWaitWord]
  refine swAt G K c 11 (by decide) ?_ ?_
  · rfl
  refine swAt G K c 12 (by decide) ?_ ?_
  · rfl
  refine swAt G K c 13 (by decide) ?_ ?_
  · rfl
  refine swAt G K c 14 (by decide) ?_ ?_
  · rfl
  refine swAt G K c 15 (by decide) ?_ ?_
  · rfl
  refine swAt G K c 16 (by decide) ?_ ?_
  · rfl
  exact endAt c

/-- Part 37: waits for copies out 17 to 21. -/
theorem p37 (K : GSem nD τ sig → ℕ) (c : Dev nD) {Kt : _ → sProp 𝕄} :
    iprop(SwSt G K c 17 ∗ (∀ r, SwSt G K c 22 -∗ Kt r))
      ⊢ WP c (k0_part37 (F := F) A0 hA A1 hA A2 hA A3 hA A4 hA SM hA cc0_scratch1 cc0_scratch2 c) Kt := by
  rw [k0_part37_eq_skeleton]
  unfold k0_part37_skel
  simp only [Prog.lift, Prog.bind_op, Prog.bind_ret, Prog.pure_eq_ret, semSignalWord, semWaitWord]
  refine swAt G K c 17 (by decide) ?_ ?_
  · rfl
  refine swAt G K c 18 (by decide) ?_ ?_
  · rfl
  refine swAt G K c 19 (by decide) ?_ ?_
  · rfl
  refine swAt G K c 20 (by decide) ?_ ?_
  · rfl
  refine swAt G K c 21 (by decide) ?_ ?_
  · rfl
  exact endAt c

end Cert.KernelIdeal.Own

end
-- ==== Proof.Slots.lean ====
/-
  The gather buffer of a device cut into its 32 slots and put back together, and the resources of the copies gathered from
  what the barrier hands over.
-/
module

public import proofs.«01_k».proof.Proof.Facts

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
local notation "𝕄" => MT nD τ sig Unit (Elt F) ℕ UU ℕ

variable (G : GBuf F)

/-! ## Reindexing -/

/-- Copies as pairs of an offset and a block. -/
def e28 : Fin 7 × Fin 4 ≃ Fin 28 where
  toFun p := ⟨4 * p.1.val + p.2.val, by have := p.1.isLt; have := p.2.isLt; omega⟩
  invFun k := (jj k, bb k)
  left_inv := by decide
  right_inv := by decide

theorem by_jobs (Φ : Fin 7 → Fin 4 → sProp 𝕄) :
    bigSep Finset.univ (fun k : Fin 28 => Φ (jj k) (bb k)) = bigSep Finset.univ fun j => bigSep Finset.univ fun b => Φ j b := by
  rw [← bigSep_univ_prod (fun p : Fin 7 × Fin 4 => Φ p.1 p.2), bigSep_univ_equiv e28.symm]
  rfl

/-- The own slots, then the slots of the other devices. -/
def slotOf (c : Dev nD) : Fin 4 ⊕ Fin 28 → Dev nD × Fin 4
  | .inl b => (c, b)
  | .inr k => (src c k, bb k)
theorem slotOf_bij : ∀ c : Dev nD, Function.Bijective (slotOf c) := by decide +kernel

theorem by_slots (c : Dev nD) (Φ : Dev nD → Fin 4 → sProp 𝕄) :
    bigSep Finset.univ (fun p : Dev nD × Fin 4 => Φ p.1 p.2)
      = iprop(bigSep Finset.univ (fun b : Fin 4 => Φ c b) ∗ bigSep Finset.univ fun k : Fin 28 => Φ (src c k) (bb k)) := by
  rw [bigSep_univ_equiv (Equiv.ofBijective _ (slotOf_bij c)), bigSep_univ_sum]
  rfl

/-- The 60 transfer cells of a device: the send cells, the receive cells it does not use, the receive cells it uses. -/
def cellOf60 (c : Dev nD) : Fin 28 ⊕ (Fin 4 ⊕ Fin 28) → Fin 60
  | .inl k => ⟨k.val, by omega⟩
  | .inr (.inl b) => ⟨(28 + 4 * c.val + b.val) % 60, Nat.mod_lt _ (by decide)⟩
  | .inr (.inr k) => ⟨(28 + 4 * (src c k).val + (bb k).val) % 60, Nat.mod_lt _ (by decide)⟩
theorem cellOf60_bij : ∀ c : Dev nD, Function.Bijective (cellOf60 c) := by decide +kernel
theorem osem_idle : ∀ (c : Dev nD) (b : Fin 4), osem (cellOf60 c (.inr (.inl b))) = .dma (rcvS c b) := by decide +kernel
theorem osem_used : ∀ (c : Dev nD) (k : Fin 28), osem (cellOf60 c (.inr (.inr k))) = .dma (rcvS (src c k) (bb k)) := by decide +kernel

theorem by_cells (c : Dev nD) (Φ : SemLoc sig → sProp 𝕄) :
    bigSep Finset.univ (fun k : Fin 60 => Φ (osem k))
      = iprop(bigSep Finset.univ (fun k : Fin 28 => Φ (.dma (sndS k)))
        ∗ bigSep Finset.univ (fun b : Fin 4 => Φ (.dma (rcvS c b)))
        ∗ bigSep Finset.univ (fun k : Fin 28 => Φ (.dma (rcvS (src c k) (bb k))))) := by
  rw [bigSep_univ_equiv (Equiv.ofBijective _ (cellOf60_bij c)), bigSep_univ_sum, bigSep_univ_sum]
  refine congrArg₂ _ (bigSep_congr fun k _ => ?_) (congrArg₂ _ (bigSep_congr fun b _ => ?_) (bigSep_congr fun k _ => ?_))
  · exact congrArg Φ (osem_snd k)
  · exact congrArg Φ (osem_idle c b)
  · exact congrArg Φ (osem_used c k)

/-! ## The gather buffer as its slots -/

theorem slot_set (s : Dev nD) (b : Fin 4) : (slotM s b).view.set = (slotR s b).set := View.set_slice_whole _ _

theorem slots_disjoint (p p' : Dev nD × Fin 4) (h : p ≠ p') :
    Disjoint (slotM p.1 p.2).view.set (slotM p'.1 p'.2).view.set := by
  rw [slot_set, slot_set]
  refine Rect.unit_disjoint (a := 0) ?_
  have h1 := p.2.isLt; have h2 := p'.2.isLt
  have h3 : p.1.val < 8 := p.1.isLt
  have h4 : p'.1.val < 8 := p'.1.isLt
  have h5 : ¬ (p.1.val = p'.1.val ∧ p.2.val = p'.2.val) := fun ⟨a, b⟩ => h (Prod.ext (Fin.ext a) (Fin.ext b))
  show 1024 * p.2.val + 128 * p.1.val + 128 ≤ 1024 * p'.2.val + 128 * p'.1.val
    ∨ 1024 * p'.2.val + 128 * p'.1.val + 128 ≤ 1024 * p.2.val + 128 * p.1.val
  omega

/-- The elements of a slot. -/
def slotSet (p : Dev nD × Fin 4) : Finset (cc0_scratch0 : Ref sig .tc).ty.Idx := (slotM p.1 p.2).view.set

theorem slots_univ : (Finset.univ : Finset (Dev nD × Fin 4)).biUnion slotSet = Finset.univ := by
  refine Finset.eq_univ_iff_forall.mpr fun i => ?_
  have h0 : (i 0).val < 4096 := (i 0).isLt
  have h1 : (i 1).val < 128 := (i 1).isLt
  refine Finset.mem_biUnion.mpr ⟨(⟨((i 0).val % 1024) / 128, by show _ < 8; omega⟩, ⟨(i 0).val / 1024, by omega⟩), Finset.mem_univ _, ?_⟩
  unfold slotSet
  rw [slot_set, Rect.mem_set_unit]
  intro a
  match a with
  | 0 => exact ⟨by show 1024 * ((i 0).val / 1024) + 128 * (((i 0).val % 1024) / 128) ≤ (i 0).val; omega,
      by show (i 0).val < 1024 * ((i 0).val / 1024) + 128 * (((i 0).val % 1024) / 128) + 128; omega⟩
  | 1 => exact ⟨Nat.zero_le _, by show (i 1).val < 0 + 128; omega⟩

theorem scratch_eq (c : Dev nD) (q : PosShare TreeShare) (f : GBuf F) :
    stg c cc0_scratch0 q f = bigSep Finset.univ fun p : Dev nD × Fin 4 => slotPt c p.1 p.2 q f := by
  have h := pointsTo_biUnion (Ix := Unit) (Val := Elt F) (Name := ℕ) (U := UU) (Lvl := ℕ) (ℓ := (c : Thread nD τ).loc cc0_scratch0) (q := q) (f := f) Finset.univ slotSet
    fun p _ p' _ h => slots_disjoint p p' h
  rw [slots_univ] at h
  exact h

/-- The gather buffer at unknown contents: the own slots, and the slots of each other device. -/
theorem entry_slots (c : Dev nD) (f : GBuf F) :
    stg c cc0_scratch0 fullShare f ⊢ iprop(bigSep Finset.univ (fun b : Fin 4 => ownAny (F := F) c b)
      ∗ bigSep Finset.univ fun j : Fin 7 => bigSep Finset.univ fun b : Fin 4 => iprop(∃ f, slotPt c (peer c j) b fullShare f)) := by
  rw [scratch_eq, by_slots c (fun s b => slotPt c s b fullShare f)]
  refine BI.sep_mono (bigSep_mono fun b _ => ?_) ?_
  · show slotPt c c b fullShare f ⊢ ownAny (F := F) c b
    unfold ownAny; iintro H; iexists f; iexact H
  · rw [← by_jobs (fun j b => iprop(∃ f, slotPt (F := F) c (peer c j) b fullShare f))]
    refine bigSep_mono fun k _ => ?_
    show slotPt c (src c k) (bb k) fullShare f ⊢ iprop(∃ f, slotPt (F := F) c (peer c (jj k)) (bb k) fullShare f)
    iintro H; iexists f; iexact H

/-! ## Shares of a slot -/

theorem slot_lend (d s : Dev nD) (b : Fin 4) :
    slotPt d s b fullShare G ⊢ iprop(slotPt d s b kept G ∗ bigSep Finset.univ fun j : Fin 7 => slotPt d s b (lent j) G) := by
  unfold slotPt; exact Transfers.pointsTo_toks_split fullShare 7
theorem slot_rejoin (d s : Dev nD) (b : Fin 4) :
    iprop(slotPt d s b kept G ∗ bigSep Finset.univ fun j : Fin 7 => slotPt d s b (lent j) G) ⊢ slotPt d s b fullShare G := by
  unfold slotPt; exact Transfers.pointsTo_toks_join fullShare 7

/-- The tokens of copy `k`. -/
def sendTok (c : Dev nD) (k : Fin 28) : sProp 𝕄 :=
  iprop(dutyTok ER (sndCell c k) 0 0 ∗ reached ER (sndCell c k) 0 ∗ dutyTok ER (rcvCell (peer c (jj k)) c (bb k)) 0 0)

/-- What the barrier handed over, the tokens and the own slots make up what the copies take; a share of the own slots stays. -/
theorem send_intro (c : Dev nD) :
    iprop(bigSep Finset.univ (sendTok (F := F) c) ∗ bigSep Finset.univ (fun d : Fin 7 => barPay (F := F) c d)
      ∗ bigSep Finset.univ (fun b : Fin 4 => slotPt c c b fullShare G))
    ⊢ iprop(bigSep Finset.univ (sendRes G c) ∗ bigSep Finset.univ (fun b : Fin 4 => slotPt c c b kept G)) := by
  have h1 : bigSep Finset.univ (fun b : Fin 4 => slotPt c c b fullShare G)
      ⊢ iprop(bigSep Finset.univ (fun b : Fin 4 => slotPt c c b kept G)
        ∗ bigSep Finset.univ fun k : Fin 28 => slotPt c c (bb k) (lent (jj k)) G) := by
    rw [by_jobs (fun j b => slotPt c c b (lent j) G), bigSep_univ_comm, ← bigSep_sep']
    exact bigSep_mono fun b _ => slot_lend G c c b
  have h2 : bigSep Finset.univ (fun d : Fin 7 => barPay (F := F) c d)
      ⊢ bigSep Finset.univ fun k : Fin 28 => iprop((∃ f, slotPt (F := F) (peer c (jj k)) c (bb k) fullShare f)
          ∗ reached ER (rcvCell (peer c (jj k)) c (bb k)) 0) := by
    rw [by_jobs (fun j b => iprop((∃ f, slotPt (F := F) (peer c j) c b fullShare f) ∗ reached ER (rcvCell (peer c j) c b) 0))]
    exact bigSep_mono fun d _ => by unfold barPay; exact BI.Entails.refl _
  have h3 : iprop(bigSep Finset.univ (sendTok (F := F) c)
      ∗ bigSep Finset.univ (fun k : Fin 28 => iprop((∃ f, slotPt (F := F) (peer c (jj k)) c (bb k) fullShare f)
          ∗ reached ER (rcvCell (peer c (jj k)) c (bb k)) 0))
      ∗ bigSep Finset.univ fun k : Fin 28 => slotPt c c (bb k) (lent (jj k)) G) ⊢ bigSep Finset.univ (sendRes G c) := by
    rw [← bigSep_sep', ← bigSep_sep']
    refine bigSep_mono fun k _ => ?_
    unfold sendTok sendRes
    show (_ : sProp 𝕄) ⊢ (_ : sProp 𝕄)
    iintro ⟨⟨H1, H2, H3⟩, ⟨H4, H5⟩, H6⟩
    isplitl [H1]; · iexact H1
    isplitl [H2]; · iexact H2
    isplitl [H3]; · iexact H3
    isplitl [H5]; · iexact H5
    isplitl [H4] <;> iassumption
  iintro ⟨HT, HB, HO⟩
  ihave HB := h2 $$ HB
  ihave HO := h1 $$ HO
  icases HO with ⟨HK, HL⟩
  isplitl [HT HB HL]
  · iapply h3
    isplitl [HT]; · iexact HT
    isplitl [HB] <;> iassumption
  iexact HK

/-- With every copy landed, a share of the whole gather buffer at its final contents. -/
theorem whole_kept (c : Dev nD) :
    iprop(bigSep Finset.univ (fun b : Fin 4 => slotPt c c b kept G)
      ∗ bigSep Finset.univ (fun k : Fin 28 => slotPt c (src c k) (bb k) fullShare G))
    ⊢ iprop(stg c cc0_scratch0 kept G
      ∗ bigSep Finset.univ fun k : Fin 28 => bigSep Finset.univ fun j : Fin 7 => slotPt c (src c k) (bb k) (lent j) G) := by
  rw [scratch_eq, by_slots c (fun s b => slotPt c s b kept G)]
  have h : bigSep Finset.univ (fun k : Fin 28 => slotPt c (src c k) (bb k) fullShare G)
      ⊢ iprop(bigSep Finset.univ (fun k : Fin 28 => slotPt c (src c k) (bb k) kept G)
        ∗ bigSep Finset.univ fun k : Fin 28 => bigSep Finset.univ fun j : Fin 7 => slotPt c (src c k) (bb k) (lent j) G) := by
    rw [← bigSep_sep']
    exact bigSep_mono fun k _ => slot_lend G c _ _
  iintro ⟨H1, H⟩
  ihave H := h $$ H
  icases H with ⟨H2, H3⟩
  isplitr [H3]
  · isplitl [H1] <;> iassumption
  iexact H3

/-- With every lent share back, the whole gather buffer. -/
theorem whole_full (c : Dev nD) :
    iprop(stg c cc0_scratch0 kept G
      ∗ bigSep Finset.univ (fun k : Fin 28 => bigSep Finset.univ fun j : Fin 7 => slotPt c (src c k) (bb k) (lent j) G)
      ∗ bigSep Finset.univ (fun k : Fin 28 => slotPt c c (bb k) (lent (jj k)) G))
    ⊢ stg c cc0_scratch0 fullShare G := by
  rw [scratch_eq, scratch_eq, by_slots c (fun s b => slotPt c s b kept G), by_slots c (fun s b => slotPt c s b fullShare G),
    by_jobs (fun j b => slotPt c c b (lent j) G), bigSep_univ_comm (fun (j : Fin 7) (b : Fin 4) => slotPt c c b (lent j) G)]
  have h1 : iprop(bigSep Finset.univ (fun b : Fin 4 => slotPt c c b kept G)
      ∗ bigSep Finset.univ (fun b : Fin 4 => bigSep Finset.univ fun j : Fin 7 => slotPt c c b (lent j) G))
      ⊢ bigSep Finset.univ (fun b : Fin 4 => slotPt c c b fullShare G) := by
    rw [← bigSep_sep']
    exact bigSep_mono fun b _ => slot_rejoin G c c b
  have h2 : iprop(bigSep Finset.univ (fun k : Fin 28 => slotPt c (src c k) (bb k) kept G)
      ∗ bigSep Finset.univ (fun k : Fin 28 => bigSep Finset.univ fun j : Fin 7 => slotPt c (src c k) (bb k) (lent j) G))
      ⊢ bigSep Finset.univ (fun k : Fin 28 => slotPt c (src c k) (bb k) fullShare G) := by
    rw [← bigSep_sep']
    exact bigSep_mono fun k _ => slot_rejoin G c _ _
  iintro ⟨⟨H1, H2⟩, H3, H4⟩
  isplitl [H1 H4]
  · iapply h1; isplitl [H1] <;> iassumption
  · iapply h2; isplitl [H2] <;> iassumption

end Cert.KernelIdeal.Own

end
-- ==== Proof.Body.lean ====
/-
  The parts of the printed body with loads and stores, and the whole body.
-/
module

public import proofs.«01_k».proof.Proof.Parts
public import proofs.«01_k».proof.Proof.Slots
public import Idealize.ShloMosaic.Lib.Pipeline.Value

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
local notation "𝕄" => MT nD τ sig Unit (Elt F) ℕ UU ℕ
variable (G : GBuf F)

set_option maxRecDepth 4000

/-! ## Loads and stores of the staged operands -/

/-- A load of a rectangle of a whole buffer. -/
theorem ld (c : Dev nD) {s : Shape} {e : EltTy} {m : Memref sig .tc .vmem s e} {r : LoadRect s} {hl : m.view.LoadsAt r}
    {q : PosShare TreeShare} {f : m.view.ref.ty.Contents (Elt F)}
    {α : Type} {k : (r.shape.Idx → Elt F e) → TP F α} {Q : α → sProp 𝕄} :
    stg c m.view.ref q f ⊢ iprop((stg c m.view.ref q f -∗ WP c (k (m.view.readAt (Elt F) r f)) Q)
      -∗ WP c (.op (.load m r hl) k) Q) := by
  unfold stg
  exact wp_load (m := m) 𝒱₀ (c : Thread nD τ) none Set.univ (S := Finset.univ) (q := q) (f := f) (Finset.subset_univ _)

theorem pay1 (v : Vec F S128x128 .f32) : k0_pay1 v = v := (shapeCast_self _ _).trans (shapeCast_self _ _)
theorem pay2 (v : Vec F S128x128 .f32) : k0_pay2 v = v := (shapeCast_self _ _).trans (shapeCast_self _ _)
theorem pay3 (v : Vec F S128x128 .f32) : k0_pay3 v = v := (shapeCast_self _ _).trans (shapeCast_self _ _)
theorem pay45 (v : Vec F S128x128 .f32) : k0_pay5 (k0_pay4 v) = v := (shapeCast_self _ _).trans (shapeCast_self _ _)

/-- The end of a program. -/
theorem ret (c : Dev nD) {α : Type} {v : α} {Q : α → sProp 𝕄} : Q v ⊢ WP c (.ret v) Q := by
  unfold WP; rw [wp_ret]; iintro H; imodintro; iexact H

/-- The wait at the barrier semaphore. -/
theorem barAt (K : GSem nD τ sig → ℕ) (c : Dev nD) {sem : Sem sig} (hsem : sem = barS) {a : ℤ} (ha : a = 7)
    {α : Type} {k : PUnit.{1} → TP F α} {Q : α → sProp 𝕄} {R : sProp 𝕄}
    (hk : iprop((records G K ∗ semVal (barCell c) 0 ∗ bigSep Finset.univ (fun d : Fin 7 => barPay (F := F) c d)
          ∗ ∃ W, owes (c : Thread nD τ) (owedRcv c 0) W) ∗ R) ⊢ WP c (k ⟨⟩) Q) :
    iprop((SigSt G K c 7 ∗ levAts L lv ∗ cred (tallyAt (barCell c) () 7) ∗ atPos ER (barCell c) 0 ∅ 0) ∗ R)
      ⊢ WP c (.op (.semWait sem a) k) Q := by
  subst hsem ha
  iintro ⟨H, HR⟩
  iapply (bar_step G K c) $$ H
  iintro H
  iapply hk
  isplitl [H] <;> iassumption

theorem wand_of {P Q R : sProp 𝕄} (h : P ⊢ R) : Q ⊢ iprop(P -∗ R) := by
  iintro - H; iapply h; iexact H

/-- The own rows of the last block, as the load reads them. -/
abbrev x33 (X3 : (cc0_stg3_0 : Ref sig .tc).ty.Contents (Elt F)) : Vec F S128x128 .f32 :=
  A3.view.readAt (Elt F) (Rect.unit (s := S512x128) ![384, 0] S128x128.size inb_S512x128_S128x128_384_0).toLoadRect X3

/-- Part 4: the last raise, the wait at the barrier, and the stores of the own rows of the first three blocks. -/
theorem p4 (K : GSem nD τ sig → ℕ) (c : Dev nD) (v2 v91 v92 : BitVec 32) (v93 v96 : BitVec 1)
    (q : PosShare TreeShare) (X3 : (cc0_stg3_0 : Ref sig .tc).ty.Contents (Elt F))
    (hG : ∀ b, ownRows X3 b = (slotM c b).view.read (Elt F) G) {Kt : _ → sProp 𝕄} :
    iprop(SigSt G K c 6 ∗ (levAts L lv ∗ cred (tallyAt (barCell c) () 7) ∗ atPos ER (barCell c) 0 ∅ 0)
      ∗ stg c cc0_stg3_0 q X3 ∗ ownAny c 0 ∗ ownAny c 1 ∗ ownAny c 2
      ∗ (∀ w, (records G K ∗ semVal (barCell c) 0 ∗ bigSep Finset.univ (fun d : Fin 7 => barPay (F := F) c d)
            ∗ ∃ W, owes (c : Thread nD τ) (owedRcv c 0) W)
          -∗ stg c cc0_stg3_0 q X3 -∗ slotPt c c 0 fullShare G -∗ slotPt c c 1 fullShare G -∗ slotPt c c 2 fullShare G
          -∗ Kt ⟨k0_pay4 (x33 X3), w⟩))
      ⊢ WP c (k0_part4 (F := F) A0 hA A1 hA A2 hA A3 hA A4 hA SM hA cc0_scratch1 cc0_scratch2 c v2 (SemArray.scalar (sig.barrier 0 rfl)) v91 v92 v93 v96) Kt := by
  rw [k0_part4_eq_skeleton]
  unfold k0_part4_skel
  simp only [Prog.lift, Prog.bind_op, Prog.bind_ret, Prog.pure_eq_ret, semSignalWord, semWaitWord]
  refine sigAt G K c 6 (by decide) (dev7 c) rfl rfl ?_
  iintro ⟨H1, H2, HR⟩
  iapply (barAt (F := F) G K c rfl rfl ?_) $$ [H1 H2 HR]
  rotate_left
  · isplitl [H1 H2]
    · isplitl [H1] <;> iassumption
    · iexact HR
  have e1 : k0_pay1 (ownRows X3 0) = (slotM c 0).view.read (Elt F) G := (pay1 _).trans (hG 0)
  have e2 : k0_pay2 (ownRows X3 1) = (slotM c 1).view.read (Elt F) G := (pay2 _).trans (hG 1)
  have e3 : k0_pay3 (ownRows X3 2) = (slotM c 2).view.read (Elt F) G := (pay3 _).trans (hG 2)
  iintro ⟨Hb, Hx, H0, H1, H2, Hk⟩
  iapply (ld c (m := A3)) $$ Hx; iintro Hx
  iapply (own_load (F := F) c 0 (off := k0_off1 c 0#32) (k0_off1_eq c 0)) $$ H0; iintro %v0 H0
  iapply (own_store (F := F) G c 0 (off := k0_off1 c 0#32) (k0_off1_eq c 0) e1) $$ H0; iintro H0
  iapply (ld c (m := A3)) $$ Hx; iintro Hx
  iapply (own_load (F := F) c 1 (off := k0_off1 c 1024#32) (k0_off1_eq c 1)) $$ H1; iintro %v1 H1
  iapply (own_store (F := F) G c 1 (off := k0_off1 c 1024#32) (k0_off1_eq c 1) e2) $$ H1; iintro H1
  iapply (ld c (m := A3)) $$ Hx; iintro Hx
  iapply (own_load (F := F) c 2 (off := k0_off1 c 2048#32) (k0_off1_eq c 2)) $$ H2; iintro %v2 H2
  iapply (own_store (F := F) G c 2 (off := k0_off1 c 2048#32) (k0_off1_eq c 2) e3) $$ H2; iintro H2
  iapply (ld c (m := A3)) $$ Hx; iintro Hx
  iapply (ret c)
  iapply Hk $$ Hb Hx H0 H1 H2

/-- Part 5: the store of the own rows of the last block, and copy 0. -/
theorem p5 (K : GSem nD τ sig → ℕ) (c : Dev nD) (v2 : BitVec 32) (v128 : BitVec 32) (w : FVec F S128x128 .f32)
    (hw : k0_pay5 w = (slotM c 3).view.read (Elt F) G) {Kt : _ → sProp 𝕄} :
    iprop(ownAny c 3 ∗ (slotPt c c 3 fullShare G -∗ (SendSt G K c 0 ∗ (∀ r, SendSt G K c 1 -∗ Kt r))))
      ⊢ WP c (k0_part5 (F := F) A0 hA A1 hA A2 hA A3 hA A4 hA SM hA cc0_scratch1 cc0_scratch2 c v2 w v128) Kt := by
  rw [k0_part5_eq_skeleton]
  unfold k0_part5_skel
  simp only [Prog.lift, Prog.bind_op, Prog.bind_ret, Prog.pure_eq_ret, semSignalWord, semWaitWord]
  iintro ⟨H3, Hk⟩
  iapply (own_load (F := F) c 3 (off := k0_off1 c 3072#32) (k0_off1_eq c 3)) $$ H3; iintro %v3 H3
  iapply (own_store (F := F) G c 3 (off := k0_off1 c 3072#32) (k0_off1_eq c 3) hw) $$ H3; iintro H3
  ihave H := Hk $$ H3
  irevert H
  refine wand_of ?_
  refine sendAt G K c 0 (by decide) 0 0 rfl rfl ?_ ?_ ?_ ?_ ?_ ?_
  · exact dev8 c
  · exact k0_off3_eq c 0
  · exact k0_off3_eq c 0
  · rfl
  · exact k0_off2_eq c
  exact endAt c

/-! ## The computation -/

/-- What a load of a whole staged operand reads. -/
abbrev x0 (X0 : (cc0_stg0_0 : Ref sig .tc).ty.Contents (Elt F)) : Vec F S256x512 .f32 :=
  A0.view.readAt (Elt F) (Rect.unit (s := S256x512) ![0, 0] S256x512.size inb_S256x512_S256x512_0_0).toLoadRect X0
abbrev x1 (X1 : (cc0_stg1_0 : Ref sig .tc).ty.Contents (Elt F)) : Vec F S512x512 .f32 :=
  A1.view.readAt (Elt F) (Rect.unit (s := S512x512) ![0, 0] S512x512.size inb_S512x512_S512x512_0_0).toLoadRect X1
abbrev x2 (X2 : (cc0_stg2_0 : Ref sig .tc).ty.Contents (Elt F)) : Vec F S512x512 .f32 :=
  A2.view.readAt (Elt F) (Rect.unit (s := S512x512) ![0, 0] S512x512.size inb_S512x512_S512x512_0_0).toLoadRect X2

/-- The keys (`k`) and values (`v`) of batch `b` and head `h` in the gather buffer. -/
abbrev k00 (G : GBuf F) : Vec F S1024x64 .f32 :=
  SM.view.readAt (Elt F) (Rect.unit (s := S4096x128) ![0, 0] S1024x64.size inb_S4096x128_S1024x64_0_0).toLoadRect G
abbrev v00 (G : GBuf F) : Vec F S1024x64 .f32 :=
  SM.view.readAt (Elt F) (Rect.unit (s := S4096x128) ![2048, 0] S1024x64.size inb_S4096x128_S1024x64_2048_0).toLoadRect G
abbrev k01 (G : GBuf F) : Vec F S1024x64 .f32 :=
  SM.view.readAt (Elt F) (Rect.unit (s := S4096x128) ![0, 64] S1024x64.size inb_S4096x128_S1024x64_0_64).toLoadRect G
abbrev v01 (G : GBuf F) : Vec F S1024x64 .f32 :=
  SM.view.readAt (Elt F) (Rect.unit (s := S4096x128) ![2048, 64] S1024x64.size inb_S4096x128_S1024x64_2048_64).toLoadRect G
abbrev k10 (G : GBuf F) : Vec F S1024x64 .f32 :=
  SM.view.readAt (Elt F) (Rect.unit (s := S4096x128) ![1024, 0] S1024x64.size inb_S4096x128_S1024x64_1024_0).toLoadRect G
abbrev v10 (G : GBuf F) : Vec F S1024x64 .f32 :=
  SM.view.readAt (Elt F) (Rect.unit (s := S4096x128) ![3072, 0] S1024x64.size inb_S4096x128_S1024x64_3072_0).toLoadRect G
abbrev k11 (G : GBuf F) : Vec F S1024x64 .f32 :=
  SM.view.readAt (Elt F) (Rect.unit (s := S4096x128) ![1024, 64] S1024x64.size inb_S4096x128_S1024x64_1024_64).toLoadRect G
abbrev v11 (G : GBuf F) : Vec F S1024x64 .f32 :=
  SM.view.readAt (Elt F) (Rect.unit (s := S4096x128) ![3072, 64] S1024x64.size inb_S4096x128_S1024x64_3072_64).toLoadRect G

/-- What a device stores, from its queries `q`, the gather buffer and the output projection. -/
def outOf (q : FVec F S256x512 .f32) (G : GBuf F) (w : Vec F S512x512 .f32) : FVec F S256x512 .f32 :=
  k0_pay16 q (k0_pay12 q (k0_pay8 q (k00 G) (v00 G)) (k0_pay9 q (k00 G) (v00 G)) (k0_pay10 q (k00 G) (v00 G))
    (k0_pay11 q (k00 G) (v00 G)) (k01 G) (v01 G)) (k0_pay14 q (k10 G)) (k0_pay15 q (k10 G) (v10 G)) (k11 G) (v11 G) w

/-- Part 18: the last two copies, and the loads of the input and of the query projection. -/
theorem p18 (K : GSem nD τ sig → ℕ) (c : Dev nD) (v2 v505 : BitVec 32) (q0 q1 : PosShare TreeShare)
    (X0 : (cc0_stg0_0 : Ref sig .tc).ty.Contents (Elt F)) (X1 : (cc0_stg1_0 : Ref sig .tc).ty.Contents (Elt F)) {Kt : _ → sProp 𝕄} :
    iprop(SendSt G K c 26 ∗ stg c cc0_stg0_0 q0 X0 ∗ stg c cc0_stg1_0 q1 X1
      ∗ (∀ a b, SendSt G K c 28 -∗ stg c cc0_stg0_0 q0 X0 -∗ stg c cc0_stg1_0 q1 X1 -∗ Kt ⟨k0_pay6 (x0 X0) (x1 X1), a, b⟩))
      ⊢ WP c (k0_part18 (F := F) A0 hA A1 hA A2 hA A3 hA A4 hA SM hA cc0_scratch1 cc0_scratch2 c v2 v505) Kt := by
  rw [k0_part18_eq_skeleton]
  unfold k0_part18_skel
  simp only [Prog.lift, Prog.bind_op, Prog.bind_ret, Prog.pure_eq_ret, semSignalWord, semWaitWord]
  refine sendAt G K c 26 (by decide) 6 2 rfl rfl ?_ ?_ ?_ ?_ ?_ ?_
  · exact dev34 c
  · exact k0_off3_eq c 2
  · exact k0_off3_eq c 2
  · rfl
  · exact k0_off5_eq c
  refine sendAt G K c 27 (by decide) 6 3 rfl rfl ?_ ?_ ?_ ?_ ?_ ?_
  · exact dev35 c
  · exact k0_off3_eq c 3
  · exact k0_off3_eq c 3
  · rfl
  · exact k0_off6_eq c
  iintro ⟨H, H0, H1, Hk⟩
  iapply (ld c (m := A0)) $$ H0; iintro H0
  iapply (ld c (m := A1)) $$ H1; iintro H1
  iapply (ret c)
  iapply Hk $$ H H0 H1

/-- Part 31: the last two waits for copies in, and the loads of the first batch's first head. -/
theorem p31 (K : GSem nD τ sig → ℕ) (c : Dev nD) (v2 v882 : BitVec 32) (q : FVec F S256x512 .f32) {Kt : _ → sProp 𝕄} :
    iprop(RwSt G K c 26 ∗ (RwSt G K c 28 -∗ (stg c cc0_scratch0 kept G ∗ (stg c cc0_scratch0 kept G
        -∗ Kt ⟨k0_pay8 q (k00 G) (v00 G), k0_pay9 q (k00 G) (v00 G), k0_pay10 q (k00 G) (v00 G), k0_pay11 q (k00 G) (v00 G)⟩))))
      ⊢ WP c (k0_part31 (F := F) A0 hA A1 hA A2 hA A3 hA A4 hA SM hA cc0_scratch1 cc0_scratch2 c v2 q v882) Kt := by
  rw [k0_part31_eq_skeleton]
  unfold k0_part31_skel
  simp only [Prog.lift, Prog.bind_op, Prog.bind_ret, Prog.pure_eq_ret, semSignalWord, semWaitWord]
  refine rwAt G K c 26 (by decide) 6 2 rfl rfl (off10 c 6) ?_
  refine rwAt G K c 27 (by decide) 6 3 rfl rfl (off11 c 6) ?_
  iintro ⟨H, Hk⟩
  ihave H := Hk $$ H
  icases H with ⟨H, Hk⟩
  iapply (ld c (m := SM)) $$ H; iintro H
  iapply (ld c (m := SM)) $$ H; iintro H
  iapply (ret c)
  iapply Hk $$ H

/-- Part 32: the loads of the first batch's second head and of the second batch's first head. -/
theorem p32 (c : Dev nD) (q : FVec F S256x512 .f32) (a1 a2 a3 a4 : FVec F S128x64 .f32) {Kt : _ → sProp 𝕄} :
    iprop(stg c cc0_scratch0 kept G ∗ (stg c cc0_scratch0 kept G
        -∗ Kt ⟨k0_pay12 q a1 a2 a3 a4 (k01 G) (v01 G), k0_pay14 q (k10 G), k0_pay15 q (k10 G) (v10 G)⟩))
      ⊢ WP c (k0_part32 (F := F) A0 hA A1 hA A2 hA A3 hA A4 hA SM hA cc0_scratch1 cc0_scratch2 q a1 a2 a3 a4) Kt := by
  rw [k0_part32_eq_skeleton]
  unfold k0_part32_skel
  simp only [Prog.lift, Prog.bind_op, Prog.bind_ret, Prog.pure_eq_ret, semSignalWord, semWaitWord]
  iintro ⟨H, Hk⟩
  iapply (ld c (m := SM)) $$ H; iintro H
  iapply (ld c (m := SM)) $$ H; iintro H
  iapply (ld c (m := SM)) $$ H; iintro H
  iapply (ld c (m := SM)) $$ H; iintro H
  iapply (ret c)
  iapply Hk $$ H

/-- The store of the whole output. -/
theorem stOut (c : Dev nD) {w : FVec F S256x512 .f32} {f : (cc0_stg4_0 : Ref sig .tc).ty.Contents (Elt F)}
    {hx : (A4.access (Rect.unit (s := S256x512) ![0, 0] S256x512.size inb_S256x512_S256x512_0_0)).Stores Finset.univ} {hm}
    {α : Type} {k : PUnit.{1} → TP F α} {Q : α → sProp 𝕄} :
    stg c cc0_stg4_0 fullShare f ⊢ iprop((stg c cc0_stg4_0 fullShare w -∗ WP c (k ⟨⟩) Q)
      -∗ WP c (.op (.store A4 (Rect.unit (s := S256x512) ![0, 0] S256x512.size inb_S256x512_S256x512_0_0) w Finset.univ hx hm) k) Q) := by
  have e : (A4.access (Rect.unit (s := S256x512) ![0, 0] S256x512.size inb_S256x512_S256x512_0_0)).write (Elt F) f w Finset.univ = w :=
    Memref.write_access_unit_zero_univ (Elt F) cc0_stg4_0 (off := ![0, 0]) (by decide) inb_S256x512_S256x512_0_0 f w
  iintro H Hk
  unfold stg
  iapply (wp_store (m := A4) (r := Rect.unit (s := S256x512) ![0, 0] S256x512.size inb_S256x512_S256x512_0_0) (w := w) (hx := hx) (hm := hm)
    𝒱₀ (c : Thread nD τ) none Set.univ (S := Finset.univ) (f := f) (Finset.subset_univ _)) $$ H
  iintro H
  iapply Hk
  iapply (Entails.of_eq (congrArg (fun g => (((c : Thread nD τ).loc cc0_stg4_0) ↦{fullShare} g : sProp 𝕄)) e)) $$ H

/-- Part 33: the loads of the second batch's second head and of the output projection, and the store of the output. -/
theorem p33 (c : Dev nD) (q : FVec F S256x512 .f32) (a1 : FVec F S128x512 .f32) (a2 : FVec F S512x1 .f32) (a3 : FVec F S512x64 .f32)
    (q2 : PosShare TreeShare) (X2 : (cc0_stg2_0 : Ref sig .tc).ty.Contents (Elt F))
    (X4 : (cc0_stg4_0 : Ref sig .tc).ty.Contents (Elt F)) {Kt : _ → sProp 𝕄} :
    iprop(stg c cc0_scratch0 kept G ∗ stg c cc0_stg2_0 q2 X2 ∗ stg c cc0_stg4_0 fullShare X4
      ∗ (stg c cc0_scratch0 kept G -∗ stg c cc0_stg2_0 q2 X2
        -∗ stg c cc0_stg4_0 fullShare (k0_pay16 q a1 a2 a3 (k11 G) (v11 G) (x2 X2)) -∗ Kt ⟨⟩))
      ⊢ WP c (k0_part33 (F := F) A0 hA A1 hA A2 hA A3 hA A4 hA SM hA cc0_scratch1 cc0_scratch2 c q a1 a2 a3) Kt := by
  rw [k0_part33_eq_skeleton]
  unfold k0_part33_skel
  simp only [Prog.lift, Prog.bind_op, Prog.bind_ret, Prog.pure_eq_ret, semSignalWord, semWaitWord]
  iintro ⟨H, H2, H4, Hk⟩
  iapply (ld c (m := SM)) $$ H; iintro H
  iapply (ld c (m := SM)) $$ H; iintro H
  iapply (ld c (m := A2)) $$ H2; iintro H2
  iapply (ld c (m := A4)) $$ H4; iintro H4
  iapply (stOut c) $$ H4; iintro H4
  iapply (ret c)
  iapply Hk $$ H H2 H4

end Cert.KernelIdeal.Own

end
-- ==== Proof.Whole.lean ====
/-
  The whole printed body.
-/
module

public import proofs.«01_k».proof.Proof.Body

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
local notation "𝕄" => MT nD τ sig Unit (Elt F) ℕ UU ℕ
variable (G : GBuf F)

set_option maxRecDepth 4000

/-- What a device has at the start of the body besides the barrier's and the staged operands. -/
def talk (c : Dev nD) : sProp 𝕄 :=
  iprop(bigSep Finset.univ (sendTok (F := F) c) ∗ bigSep Finset.univ (rwRes (F := F) c)
    ∗ bigSep Finset.univ (fun k : Fin 28 => atPos ER (sndCell c k) 0 ∅ 0))

/-- The barrier's. -/
def barRes (c : Dev nD) : sProp 𝕄 := iprop(levAts L lv ∗ cred (tallyAt (barCell c) () 7) ∗ atPos ER (barCell c) 0 ∅ 0)

/-- All semaphores the body used, back at zero. -/
def semsZero (c : Dev nD) : sProp 𝕄 :=
  iprop(semVal (barCell c) 0 ∗ bigSep Finset.univ (fun k : Fin 28 => semVal (sndCell c k) 0)
    ∗ bigSep Finset.univ (fun k : Fin 28 => semVal (rcvCell c (src c k) (bb k)) 0))

theorem send_begin (K : GSem nD τ sig → ℕ) (c : Dev nD) (W : Waits sig Unit) :
    iprop(records G K ∗ bigSep Finset.univ (sendRes G c) ∗ owes (c : Thread nD τ) (owedRcv c 0) W) ⊢ SendSt G K c 0 := by
  unfold SendSt
  rw [from_zero, upto_zero, bigSep_empty]
  iintro ⟨H1, H2, H3⟩
  isplitl [H1]; · iexact H1
  isplitl [H2]; · iexact H2
  isplitr; · iempintro
  iexists W; iexact H3

theorem send_finish (K : GSem nD τ sig → ℕ) (c : Dev nD) :
    SendSt G K c 28 ⊢ iprop(records G K ∗ bigSep Finset.univ (sndCred (F := F) c) ∗ ∃ W, owes (c : Thread nD τ) 0 W) := by
  unfold SendSt
  rw [from_end (n := 28) le_rfl, upto_end (n := 28) le_rfl, bigSep_empty, owedRcv_end]
  iintro ⟨H1, -, H3, H4⟩
  isplitl [H1]; · iexact H1
  isplitl [H3] <;> iassumption

theorem rw_begin (K : GSem nD τ sig → ℕ) (c : Dev nD) :
    iprop(records G K ∗ bigSep Finset.univ (rwRes (F := F) c) ∗ ∃ W, owes (c : Thread nD τ) 0 W) ⊢ RwSt G K c 0 := by
  unfold RwSt
  rw [from_zero, upto_zero, bigSep_empty]
  iintro ⟨H1, H2, H3⟩
  isplitl [H1]; · iexact H1
  isplitl [H2]; · iexact H2
  isplitr; · iempintro
  iexact H3

theorem rw_finish (K : GSem nD τ sig → ℕ) (c : Dev nD) :
    RwSt G K c 28 ⊢ iprop(records G K ∗ bigSep Finset.univ (fun k : Fin 28 => slotPt c (src c k) (bb k) fullShare G)
      ∗ bigSep Finset.univ (fun k : Fin 28 => semVal (rcvCell c (src c k) (bb k)) 0) ∗ ∃ W, owes (c : Thread nD τ) 0 W) := by
  unfold RwSt
  rw [from_end (n := 28) le_rfl, upto_end (n := 28) le_rfl, bigSep_empty]
  unfold rwGot
  rw [bigSep_sep']
  iintro ⟨H1, -, ⟨H2, H3⟩, H4⟩
  isplitl [H1]; · iexact H1
  isplitl [H2]; · iexact H2
  isplitl [H3] <;> iassumption

theorem sw_begin (K : GSem nD τ sig → ℕ) (c : Dev nD) :
    iprop(records G K ∗ bigSep Finset.univ (fun k : Fin 28 => atPos ER (sndCell c k) 0 ∅ 0)
      ∗ bigSep Finset.univ (sndCred (F := F) c) ∗ ∃ W, owes (c : Thread nD τ) 0 W) ⊢ SwSt G K c 0 := by
  unfold SwSt
  rw [from_zero, upto_zero, bigSep_empty]
  unfold swRes
  rw [bigSep_sep']
  iintro ⟨H1, H2, H3, H4⟩
  isplitl [H1]; · iexact H1
  isplitl [H2 H3]
  · isplitl [H2] <;> iassumption
  isplitr; · iempintro
  iexact H4

theorem sw_finish (K : GSem nD τ sig → ℕ) (c : Dev nD) :
    SwSt G K c 28 ⊢ iprop(bigSep Finset.univ (fun k : Fin 28 => slotPt c c (bb k) (lent (jj k)) G)
      ∗ bigSep Finset.univ (fun k : Fin 28 => semVal (sndCell c k) 0) ∗ ∃ W, owes (c : Thread nD τ) 0 W) := by
  unfold SwSt
  rw [from_end (n := 28) le_rfl, upto_end (n := 28) le_rfl, bigSep_empty]
  unfold swGot
  rw [bigSep_sep']
  iintro ⟨-, -, ⟨H2, H3⟩, H4⟩
  isplitl [H2]; · iexact H2
  isplitl [H3] <;> iassumption

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bnd (c : Dev nD) {α β : Type} {p : TP F α} {k : α → TP F β} {Q : β → sProp 𝕄} :
    WP c p (fun a => WP c (k a) Q) ⊢ WP c (p >>= k) Q := by
  unfold WP; rw [wp_bind]

theorem wand2 {E P R T : sProp 𝕄} (h : iprop(P ∗ R) ⊢ T) : E ⊢ iprop(P -∗ R -∗ T) := by
  iintro - HP HR; iapply h; isplitl [HP] <;> iassumption

/-- The body up to the wait for copy 24. -/
theorem p38 (K : GSem nD τ sig → ℕ) (c : Dev nD) (q0 q1 q2 q3 : PosShare TreeShare)
    (X0 : (cc0_stg0_0 : Ref sig .tc).ty.Contents (Elt F)) (X1 : (cc0_stg1_0 : Ref sig .tc).ty.Contents (Elt F))
    (X2 : (cc0_stg2_0 : Ref sig .tc).ty.Contents (Elt F)) (X3 : (cc0_stg3_0 : Ref sig .tc).ty.Contents (Elt F))
    (X4 : (cc0_stg4_0 : Ref sig .tc).ty.Contents (Elt F))
    (hG : ∀ b, ownRows X3 b = (slotM c b).view.read (Elt F) G) {Kt : Dev nD → sProp 𝕄} :
    iprop(SigSt G K c 0 ∗ barRes c ∗ talk c ∗ bigSep Finset.univ (fun b : Fin 4 => ownAny (F := F) c b)
      ∗ (stg c cc0_stg0_0 q0 X0 ∗ stg c cc0_stg1_0 q1 X1 ∗ stg c cc0_stg2_0 q2 X2 ∗ stg c cc0_stg3_0 q3 X3 ∗ stg c cc0_stg4_0 fullShare X4)
      ∗ ((SwSt G K c 24 ∗ semVal (barCell c) 0 ∗ bigSep Finset.univ (fun k : Fin 28 => semVal (rcvCell c (src c k) (bb k)) 0)
          ∗ (stg c cc0_scratch0 kept G
            ∗ bigSep Finset.univ (fun k : Fin 28 => bigSep Finset.univ fun j : Fin 7 => slotPt c (src c k) (bb k) (lent j) G))
          ∗ (stg c cc0_stg0_0 q0 X0 ∗ stg c cc0_stg1_0 q1 X1 ∗ stg c cc0_stg2_0 q2 X2 ∗ stg c cc0_stg3_0 q3 X3
            ∗ stg c cc0_stg4_0 fullShare (outOf (k0_pay6 (x0 X0) (x1 X1)) G (x2 X2)))) -∗ Kt c))
      ⊢ WP c (k0_part38 (F := F) A0 hA A1 hA A2 hA A3 hA A4 hA SM hA cc0_scratch1 cc0_scratch2) Kt := by
  have e5 : k0_pay5 (k0_pay4 (x33 X3)) = (slotM c 3).view.read (Elt F) G := (pay45 _).trans (hG 3)
  rw [k0_part38_eq_skeleton, four]
  unfold k0_part38_skel barRes talk
  simp only [Prog.lift, Prog.bind_op, Prog.bind_ret, Prog.pure_eq_ret]
  iintro ⟨H, Hbar, ⟨Htok, Hrw, Hsw⟩, ⟨Ho0, Ho1, Ho2, Ho3⟩, ⟨H0, H1, H2, H3, H4⟩, Hk⟩
  iapply (bnd c)
  iapply (p1 (F := F) G K c)
  isplitl [H]; · iexact H
  iintro %v2 %c1 H
  dsimp only
  iapply (bnd c)
  iapply (p2 (F := F) G K c _ _)
  isplitl [H]; · iexact H
  iintro %r2 H
  iapply (bnd c)
  iapply (p3 (F := F) G K c _ _ _)
  isplitl [H]; · iexact H
  iintro %r3 H
  iapply (bnd c)
  iapply (p4 (F := F) G K c _ _ _ _ _ q3 X3 hG)
  isplitl [H]; · iexact H
  isplitl [Hbar]; · iexact Hbar
  isplitl [H3]; · iexact H3
  isplitl [Ho0]; · iexact Ho0
  isplitl [Ho1]; · iexact Ho1
  isplitl [Ho2]; · iexact Ho2
  iintro %w ⟨HI, Hbs, Hpay, ⟨%W, HO⟩⟩ H3 Ho0 Ho1 Ho2
  iapply (bnd c)
  iapply (p5 (F := F) G K c _ _ _ e5)
  isplitl [Ho3]; · iexact Ho3
  iintro Ho3
  ihave Hs := (send_intro (F := F) G c) $$ [Htok Hpay Ho0 Ho1 Ho2 Ho3]
  · isplitl [Htok]; · iexact Htok
    isplitl [Hpay]; · iexact Hpay
    iapply (Entails.of_eq (four (fun b : Fin 4 => slotPt c c b fullShare G)).symm)
    isplitl [Ho0]; · iexact Ho0
    isplitl [Ho1]; · iexact Ho1
    isplitl [Ho2] <;> iassumption
  icases Hs with ⟨Hs, Hkept⟩
  isplitl [HI Hs HO]
  · iapply (send_begin (F := F) G K c W)
    isplitl [HI]; · iexact HI
    isplitl [Hs] <;> iassumption
  iintro %r5 H
  iapply (bnd c)
  iapply (p6 (F := F) G K c _ _)
  isplitl [H]; · iexact H
  iintro %r6 H
  iapply (bnd c)
  iapply (p7 (F := F) G K c _)
  isplitl [H]; · iexact H
  iintro %r7 H
  iapply (bnd c)
  iapply (p8 (F := F) G K c _ _ _)
  isplitl [H]; · iexact H
  iintro %r8 H
  iapply (bnd c)
  iapply (p9 (F := F) G K c _)
  isplitl [H]; · iexact H
  iintro %r9 H
  iapply (bnd c)
  iapply (p10 (F := F) G K c _ _)
  isplitl [H]; · iexact H
  iintro %r10 H
  iapply (bnd c)
  iapply (p11 (F := F) G K c _ _)
  isplitl [H]; · iexact H
  iintro %r11 H
  iapply (bnd c)
  iapply (p12 (F := F) G K c _ _)
  isplitl [H]; · iexact H
  iintro %r12 H
  iapply (bnd c)
  iapply (p13 (F := F) G K c _ _ _ _ _)
  isplitl [H]; · iexact H
  iintro %r13 H
  iapply (bnd c)
  iapply (p14 (F := F) G K c _ _)
  isplitl [H]; · iexact H
  iintro %r14 H
  iapply (bnd c)
  iapply (p15 (F := F) G K c _ _ _ _)
  isplitl [H]; · iexact H
  iintro %r15 H
  iapply (bnd c)
  iapply (p16 (F := F) G K c _ _)
  isplitl [H]; · iexact H
  iintro %r16 H
  iapply (bnd c)
  iapply (p17 (F := F) G K c _ _ _ _ _ _)
  isplitl [H]; · iexact H
  iintro %r17 H
  iapply (bnd c)
  iapply (p18 (F := F) G K c _ _ q0 q1 X0 X1)
  isplitl [H]; · iexact H
  isplitl [H0]; · iexact H0
  isplitl [H1]; · iexact H1
  iintro %a18 %b18 H H0 H1
  ihave H := (send_finish (F := F) G K c) $$ H
  icases H with ⟨HI, Hcred, HO⟩
  ihave H := (rw_begin (F := F) G K c) $$ [HI Hrw HO]
  · isplitl [HI]; · iexact HI
    isplitl [Hrw] <;> iassumption
  iapply (bnd c)
  iapply (p19 (F := F) G K c _ _ _)
  isplitl [H]; · iexact H
  iintro %r19 H
  iapply (bnd c)
  iapply (p20 (F := F) G K c _ _ _)
  isplitl [H]; · iexact H
  iintro %r20 H
  iapply (bnd c)
  iapply (p21 (F := F) G K c _ _ _)
  isplitl [H]; · iexact H
  iintro %r21 H
  iapply (bnd c)
  iapply (p22 (F := F) G K c _ _)
  isplitl [H]; · iexact H
  iintro %r22 H
  iapply (bnd c)
  iapply (p23 (F := F) G K c _ _ _ _)
  isplitl [H]; · iexact H
  iintro %r23 H
  iapply (bnd c)
  iapply (p24 (F := F) G K c _)
  isplitl [H]; · iexact H
  iintro %r24 H
  iapply (bnd c)
  iapply (p25 (F := F) G K c _ _)
  isplitl [H]; · iexact H
  iintro %r25 H
  iapply (bnd c)
  iapply (p26 (F := F) G K c _)
  isplitl [H]; · iexact H
  iintro %r26 H
  iapply (bnd c)
  iapply (p27 (F := F) G K c _ _)
  isplitl [H]; · iexact H
  iintro %r27 H
  iapply (bnd c)
  iapply (p28 (F := F) G K c _ _ _)
  isplitl [H]; · iexact H
  iintro %r28 H
  iapply (bnd c)
  iapply (p29 (F := F) G K c _ _ _)
  isplitl [H]; · iexact H
  iintro %r29 H
  iapply (bnd c)
  iapply (p30 (F := F) G K c _ _ _)
  isplitl [H]; · iexact H
  iintro %r30 H
  iapply (bnd c)
  iapply (p31 (F := F) G K c _ _ _)
  isplitl [H]; · iexact H
  iintro H
  ihave H := (rw_finish (F := F) G K c) $$ H
  icases H with ⟨HI, Hsl, Hrs, HO⟩
  ihave Hw := (whole_kept (F := F) G c) $$ [Hkept Hsl]
  · isplitl [Hkept] <;> iassumption
  icases Hw with ⟨Hw, Hlent⟩
  isplitl [Hw]; · iexact Hw
  iintro Hw
  iapply (bnd c)
  iapply (p32 (F := F) G c _ _ _ _ _)
  isplitl [Hw]; · iexact Hw
  iintro Hw
  iapply (bnd c)
  iapply (p33 (F := F) G c _ _ _ _ q2 X2 X4)
  isplitl [Hw]; · iexact Hw
  isplitl [H2]; · iexact H2
  isplitl [H4]; · iexact H4
  iintro Hw H2 H4
  ihave H := (sw_begin (F := F) G K c) $$ [HI Hsw Hcred HO]
  · isplitl [HI]; · iexact HI
    isplitl [Hsw]; · iexact Hsw
    isplitl [Hcred] <;> iassumption
  iapply (bnd c)
  iapply (p34 (F := F) G K c)
  isplitl [H]; · iexact H
  iintro %r34 H
  iapply (bnd c)
  iapply (p35 (F := F) G K c)
  isplitl [H]; · iexact H
  iintro %r35 H
  iapply (bnd c)
  iapply (p36 (F := F) G K c)
  isplitl [H]; · iexact H
  iintro %r36 H
  iapply (bnd c)
  iapply (p37 (F := F) G K c)
  isplitl [H]; · iexact H
  iintro %r37 H
  ihave HR : iprop(SwSt G K c 24 -∗ Kt c) $$ [Hbs Hrs Hw Hlent H0 H1 H2 H3 H4 Hk]
  · iintro H
    iapply Hk
    isplitl [H]; · iexact H
    isplitl [Hbs]; · iexact Hbs
    isplitl [Hrs]; · iexact Hrs
    isplitl [Hw Hlent]
    · isplitl [Hw] <;> iassumption
    isplitl [H0]; · iexact H0
    isplitl [H1]; · iexact H1
    isplitl [H2]; · iexact H2
    isplitl [H3]; · iexact H3
    unfold outOf
    iexact H4
  irevert HR
  irevert H
  refine wand2 ?_
  refine swAt G K c 22 (by decide) ?_ ?_
  · rfl
  refine swAt G K c 23 (by decide) ?_ ?_
  · rfl
  iintro ⟨H, Hk⟩
  iapply (ret c)
  iapply Hk $$ H

/-- The whole body. -/
theorem body_run (K : GSem nD τ sig → ℕ) (c : Dev nD) (q0 q1 q2 q3 : PosShare TreeShare)
    (X0 : (cc0_stg0_0 : Ref sig .tc).ty.Contents (Elt F)) (X1 : (cc0_stg1_0 : Ref sig .tc).ty.Contents (Elt F))
    (X2 : (cc0_stg2_0 : Ref sig .tc).ty.Contents (Elt F)) (X3 : (cc0_stg3_0 : Ref sig .tc).ty.Contents (Elt F))
    (X4 : (cc0_stg4_0 : Ref sig .tc).ty.Contents (Elt F))
    (hG : ∀ b, ownRows X3 b = (slotM c b).view.read (Elt F) G) {Kt : PUnit.{1} → sProp 𝕄} :
    iprop(SigSt G K c 0 ∗ barRes c ∗ talk c ∗ bigSep Finset.univ (fun b : Fin 4 => ownAny (F := F) c b)
      ∗ (stg c cc0_stg0_0 q0 X0 ∗ stg c cc0_stg1_0 q1 X1 ∗ stg c cc0_stg2_0 q2 X2 ∗ stg c cc0_stg3_0 q3 X3 ∗ stg c cc0_stg4_0 fullShare X4)
      ∗ ((semsZero c ∗ stg c cc0_scratch0 fullShare G
          ∗ (stg c cc0_stg0_0 q0 X0 ∗ stg c cc0_stg1_0 q1 X1 ∗ stg c cc0_stg2_0 q2 X2 ∗ stg c cc0_stg3_0 q3 X3
            ∗ stg c cc0_stg4_0 fullShare (outOf (k0_pay6 (x0 X0) (x1 X1)) G (x2 X2)))
          ∗ ∃ W, owes (c : Thread nD τ) 0 W) -∗ Kt ⟨⟩))
      ⊢ WP c (cc0_body (F := F) A0 hA A1 hA A2 hA A3 hA A4 hA SM hA cc0_scratch1 cc0_scratch2) Kt := by
  rw [cc0_body_eq_skeleton]
  unfold cc0_body_skel semsZero
  simp only [Prog.lift, Prog.bind_op, Prog.bind_ret, Prog.pure_eq_ret]
  iintro ⟨HA, HB, HC, HD, HE, Hk⟩
  iapply (bnd c)
  iapply (p38 (F := F) G K c q0 q1 q2 q3 X0 X1 X2 X3 X4 hG)
  isplitl [HA]; · iexact HA
  isplitl [HB]; · iexact HB
  isplitl [HC]; · iexact HC
  isplitl [HD]; · iexact HD
  isplitl [HE]; · iexact HE
  iintro ⟨H, Hbs, Hrs, ⟨Hw, Hlent⟩, HE⟩
  ihave HR : iprop(SwSt G K c 28 -∗ Kt ⟨⟩) $$ [Hbs Hrs Hw Hlent HE Hk]
  · iintro H
    ihave H := (sw_finish (F := F) G K c) $$ H
    icases H with ⟨Hown, Hss, HO⟩
    ihave Hfull := (whole_full (F := F) G c) $$ [Hw Hlent Hown]
    · isplitl [Hw]; · iexact Hw
      isplitl [Hlent] <;> iassumption
    iapply Hk
    isplitl [Hbs Hrs Hss]
    · isplitl [Hbs]; · iexact Hbs
      isplitl [Hss] <;> iassumption
    isplitl [Hfull]; · iexact Hfull
    isplitl [HE] <;> iassumption
  irevert HR
  irevert H
  refine wand2 ?_
  refine swAt G K c 24 (by decide) ?_ ?_
  · rfl
  refine swAt G K c 25 (by decide) ?_ ?_
  · rfl
  refine swAt G K c 26 (by decide) ?_ ?_
  · rfl
  refine swAt G K c 27 (by decide) ?_ ?_
  · rfl
  iintro ⟨H, Hk⟩
  iapply (ret c)
  iapply Hk $$ H

end Cert.KernelIdeal.Own

end
-- ==== Proof.Entry.lean ====
/-
  The region of the kernel: its proof data, and its body obligation from the run of the printed body.
-/
module

public import proofs.«01_k».proof.Proof.Whole

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
local notation "𝕄" => MT nD τ sig Unit (Elt F) ℕ UU ℕ

variable (m : (ℓ : Loc nD τ sig) → Buf (Elt F) ℓ)

/-! ## The gathered contents -/

/-- The device and the row of its packed keys and values that row `n` of the gather buffer comes from. -/
def rowDev (n : ℕ) : Dev nD := ⟨(n % 1024) / 128, by show _ < 8; omega⟩
def rowIdx (i : S4096x128.Idx) : S512x128.Idx := fun a => match a with
  | 0 => ⟨128 * ((i 0).val / 1024) + (i 0).val % 128, by
      have : (i 0).val < 4096 := (i 0).isLt
      show 128 * ((i 0).val / 1024) + (i 0).val % 128 < 512; omega⟩
  | 1 => ⟨(i 1).val, (i 1).isLt⟩

/-- What every device's gather buffer ends with: each device's packed keys and values, at its rows of the four blocks. -/
def gath : GBuf F := fun i => V m (rowDev (i 0).val) main_v4 (rowIdx i)

theorem gath_own (c : Dev nD) : ∀ b : Fin 4, ownRows (V m c main_v4) b = (slotM c b).view.read (Elt F) (gath m) := by
  have key : ∀ (b : Fin 4) (i : S128x128.Idx) (x : S512x128.Idx) (y : S4096x128.Idx),
      (x 0).val = 128 * b.val + (i 0).val → (x 1).val = (i 1).val →
      (y 0).val = 1024 * b.val + 128 * c.val + (i 0).val → (y 1).val = (i 1).val →
      V m c main_v4 x = gath m y := by
    intro b i x y h1 h2 h3 h4
    have hc : c.val < 8 := c.isLt
    have hi : (i 0).val < 128 := (i 0).isLt
    have e1 : rowDev (y 0).val = c := Fin.ext (by simp only [rowDev]; omega)
    have e2 : rowIdx y = x := by
      funext a
      match a with
      | 0 => exact Fin.ext (by simp only [rowIdx]; omega)
      | 1 => exact Fin.ext (by simp only [rowIdx]; omega)
    unfold gath
    rw [e1, e2]
  intro b
  funext i
  match b with
  | 0 =>
    refine key 0 i ((Rect.unit (s := S512x128) ![0, 0] S128x128.size inb_S512x128_S128x128_0_0).emb i) ((slotR c 0).emb i) ?_ ?_ ?_ ?_
    · show 0 + 1 * (i 0).val = 128 * 0 + (i 0).val; omega
    · show 0 + 1 * (i 1).val = (i 1).val; omega
    · show 1024 * 0 + 128 * c.val + 1 * (i 0).val = 1024 * 0 + 128 * c.val + (i 0).val; omega
    · show 0 + 1 * (i 1).val = (i 1).val; omega
  | 1 =>
    refine key 1 i ((Rect.unit (s := S512x128) ![128, 0] S128x128.size inb_S512x128_S128x128_128_0).emb i) ((slotR c 1).emb i) ?_ ?_ ?_ ?_
    · show 128 + 1 * (i 0).val = 128 * 1 + (i 0).val; omega
    · show 0 + 1 * (i 1).val = (i 1).val; omega
    · show 1024 * 1 + 128 * c.val + 1 * (i 0).val = 1024 * 1 + 128 * c.val + (i 0).val; omega
    · show 0 + 1 * (i 1).val = (i 1).val; omega
  | 2 =>
    refine key 2 i ((Rect.unit (s := S512x128) ![256, 0] S128x128.size inb_S512x128_S128x128_256_0).emb i) ((slotR c 2).emb i) ?_ ?_ ?_ ?_
    · show 256 + 1 * (i 0).val = 128 * 2 + (i 0).val; omega
    · show 0 + 1 * (i 1).val = (i 1).val; omega
    · show 1024 * 2 + 128 * c.val + 1 * (i 0).val = 1024 * 2 + 128 * c.val + (i 0).val; omega
    · show 0 + 1 * (i 1).val = (i 1).val; omega
  | 3 =>
    refine key 3 i ((Rect.unit (s := S512x128) ![384, 0] S128x128.size inb_S512x128_S128x128_384_0).emb i) ((slotR c 3).emb i) ?_ ?_ ?_ ?_
    · show 384 + 1 * (i 0).val = 128 * 3 + (i 0).val; omega
    · show 0 + 1 * (i 1).val = (i 1).val; omega
    · show 1024 * 3 + 128 * c.val + 1 * (i 0).val = 1024 * 3 + 128 * c.val + (i 0).val; omega
    · show 0 + 1 * (i 1).val = (i 1).val; omega

/-! ## The proof data -/

/-! A window's block is its whole array. -/
theorem blk_emb0 (t : Fin cfg0.N) (i : ((main_v1 : Ref sig .tc).ty.shape).Idx) : ((cfg0.win 0).blk t).view.emb i = i :=
  funext fun a => Fin.ext (Pipeline.Window.rect_emb_val_of_index_zero win0_0 t a rfl i)
theorem blk_read0 (t : Fin cfg0.N) (f : (main_v1 : Ref sig .tc).ty.Contents (Elt F)) : ((cfg0.win 0).blk t).view.read (Elt F) f = f :=
  funext fun i => congrArg f (blk_emb0 t i)
theorem blk_emb1 (t : Fin cfg0.N) (i : ((main_arg1 : Ref sig .tc).ty.shape).Idx) : ((cfg0.win 1).blk t).view.emb i = i :=
  funext fun a => Fin.ext (Pipeline.Window.rect_emb_val_of_index_zero win0_1 t a rfl i)
theorem blk_read1 (t : Fin cfg0.N) (f : (main_arg1 : Ref sig .tc).ty.Contents (Elt F)) : ((cfg0.win 1).blk t).view.read (Elt F) f = f :=
  funext fun i => congrArg f (blk_emb1 t i)
theorem blk_emb2 (t : Fin cfg0.N) (i : ((main_arg4 : Ref sig .tc).ty.shape).Idx) : ((cfg0.win 2).blk t).view.emb i = i :=
  funext fun a => Fin.ext (Pipeline.Window.rect_emb_val_of_index_zero win0_2 t a rfl i)
theorem blk_read2 (t : Fin cfg0.N) (f : (main_arg4 : Ref sig .tc).ty.Contents (Elt F)) : ((cfg0.win 2).blk t).view.read (Elt F) f = f :=
  funext fun i => congrArg f (blk_emb2 t i)
theorem blk_emb3 (t : Fin cfg0.N) (i : ((main_v4 : Ref sig .tc).ty.shape).Idx) : ((cfg0.win 3).blk t).view.emb i = i :=
  funext fun a => Fin.ext (Pipeline.Window.rect_emb_val_of_index_zero win0_3 t a rfl i)
theorem blk_read3 (t : Fin cfg0.N) (f : (main_v4 : Ref sig .tc).ty.Contents (Elt F)) : ((cfg0.win 3).blk t).view.read (Elt F) f = f :=
  funext fun i => congrArg f (blk_emb3 t i)
theorem blk_emb4 (t : Fin cfg0.N) (i : ((main_v5 : Ref sig .tc).ty.shape).Idx) : ((cfg0.win 4).blk t).view.emb i = i :=
  funext fun a => Fin.ext (Pipeline.Window.rect_emb_val_of_index_zero win0_4 t a rfl i)
theorem blk_read4 (t : Fin cfg0.N) (f : (main_v5 : Ref sig .tc).ty.Contents (Elt F)) : ((cfg0.win 4).blk t).view.read (Elt F) f = f :=
  funext fun i => congrArg f (blk_emb4 t i)

abbrev outV (c : Dev nD) : (main_v5 : Ref sig .tc).ty.Contents (Elt F) :=
  outOf (k0_pay6 (x0 (V m c main_v1)) (x1 (V m c main_arg1))) (gath m) (x2 (V m c main_arg4))

theorem write_blk4 (t : Fin cfg0.N) (f g : (main_v5 : Ref sig .tc).ty.Contents (Elt F)) :
    ((cfg0.win 4).blk t).view.write (Elt F) f g Finset.univ = g := by
  rw [← blk_read4 t (((cfg0.win 4).blk t).view.write (Elt F) f g Finset.univ)]
  exact View.read_write_univ _ _

/-- What a device enters its body with, besides the gather buffer. -/
def Xk (c : Dev nD) : sProp 𝕄 :=
  iprop((∃ K, records (gath m) K) ∗ barRes c
    ∗ bigSep Finset.univ (fun j : Fin 7 => iprop(dutyTok ER (barCell (peer c j)) 0 j.rev ∗ reached ER (barCell (peer c j)) 0))
    ∗ bigSep Finset.univ (fun k : Fin 28 => reached ER (rcvCell c (src c k) (bb k)) 0)
    ∗ talk c ∗ bigSep Finset.univ (fun b : Fin 4 => semVal (rcvCell c c b) 0))

def scrAny (c : Dev nD) : sProp 𝕄 := iprop(∃ f : GBuf F, stg c cc0_scratch0 fullShare f)

/-- The region's proof data: the inputs stay, the output ends at `outV`. -/
def dat (c : Dev nD) : Pipeline.Dat τ (Elt F) Unit ℕ UU ℕ cfg0 c where
  A w := V m c (Pipeline.arrRef spec0 w)
  after w _ := match w with
    | 0 => V m c main_v1
    | 1 => V m c main_arg1
    | 2 => V m c main_arg4
    | 3 => V m c main_v4
    | 4 => outV m c
    | ⟨_ + 5, h⟩ => absurd h (Nat.not_lt.2 (Nat.le_add_left _ _))
  Φ t := if t.val = 0 then iprop(scrAny c ∗ (∃ r, prngReg c r) ∗ Xk m c)
    else iprop(scrAny c ∗ (∃ r, prngReg c r) ∗ Pipeline.ownSems0 osem c ∗ semVal (barCell c) 0)
  q _ := fullShare
  owed t := if t.val = 0 then O₀ c else 0

theorem before0 (c : Dev nD) (t : Fin cfg0.N) (d) : (dat m c).before 0 t d = V m c main_v1 :=
  ((dat m c).before_in_eq_fetched 0 rfl (fun _ => rfl) (fun _ _ _ => rfl) (fun t => (blk_read0 t (V m c main_v1)).symm) t d).trans
    (by show ((cfg0.win 0).blk t).view.read (Elt F) (V m c main_v1) = _; exact blk_read0 t _)
theorem before1 (c : Dev nD) (t : Fin cfg0.N) (d) : (dat m c).before 1 t d = V m c main_arg1 :=
  ((dat m c).before_in_eq_fetched 1 rfl (fun _ => rfl) (fun _ _ _ => rfl) (fun t => (blk_read1 t (V m c main_arg1)).symm) t d).trans
    (by show ((cfg0.win 1).blk t).view.read (Elt F) (V m c main_arg1) = _; exact blk_read1 t _)
theorem before2 (c : Dev nD) (t : Fin cfg0.N) (d) : (dat m c).before 2 t d = V m c main_arg4 :=
  ((dat m c).before_in_eq_fetched 2 rfl (fun _ => rfl) (fun _ _ _ => rfl) (fun t => (blk_read2 t (V m c main_arg4)).symm) t d).trans
    (by show ((cfg0.win 2).blk t).view.read (Elt F) (V m c main_arg4) = _; exact blk_read2 t _)
theorem before3 (c : Dev nD) (t : Fin cfg0.N) (d) : (dat m c).before 3 t d = V m c main_v4 :=
  ((dat m c).before_in_eq_fetched 3 rfl (fun _ => rfl) (fun _ _ _ => rfl) (fun t => (blk_read3 t (V m c main_v4)).symm) t d).trans
    (by show ((cfg0.win 3).blk t).view.read (Elt F) (V m c main_v4) = _; exact blk_read3 t _)

theorem owed_first (c : Dev nD) : (dat m c).owed t0_0.castSucc = O₀ c := by
  show (if (t0_0.castSucc).val = 0 then O₀ c else 0) = _; exact if_pos rfl
theorem owed_last (c : Dev nD) : (dat m c).owed t0_0.succ = 0 := by
  show (if (t0_0.succ).val = 0 then O₀ c else 0) = _; exact if_neg (by decide)
theorem Φ_first (c : Dev nD) : (dat m c).Φ t0_0.castSucc = iprop(scrAny c ∗ (∃ r, prngReg c r) ∗ Xk m c) := rfl
theorem Φ_last (c : Dev nD) : (dat m c).Φ t0_0.succ
    = iprop(scrAny c ∗ (∃ r, prngReg c r) ∗ Pipeline.ownSems0 osem c ∗ semVal (barCell c) 0) := rfl

theorem owesAt_in (c : Dev nD) (t : Fin (cfg0.N + 1)) (O : CellTallies nD τ sig Unit) (h : (dat m c).owed t = O) (W : Waits sig Unit) :
    (owes (c : Thread nD τ) O W : sProp 𝕄) ⊢ (dat m c).owesAt () t := by
  unfold Dat.owesAt Pipeline.owesWithin Dat.bound
  rw [h]
  iintro HO; iexists W; isplitr; · ipureintro; exact fun _ _ => Or.inl trivial
  iexact HO
theorem owesAt_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩; iexists W; iexact HO

theorem sep_pair {ι : Type} [Fintype ι] {Φ Ψ : ι → sProp 𝕄} :
    iprop(bigSep Finset.univ Φ ∗ bigSep Finset.univ Ψ) ⊢ bigSep Finset.univ (fun c => iprop(Φ c ∗ Ψ c)) :=
  Entails.of_eq (bigSep_sep' _ _ _).symm
theorem sep_unpair {ι : Type} [Fintype ι] {Φ Ψ : ι → sProp 𝕄} :
    bigSep Finset.univ (fun c => iprop(Φ c ∗ Ψ c)) ⊢ iprop(bigSep Finset.univ Φ ∗ bigSep Finset.univ Ψ) :=
  Entails.of_eq (bigSep_sep' _ _ _)

/-- The resources of the raises, from the tokens and the slots of the other devices. -/
theorem sig_intro (c : Dev nD) :
    iprop(bigSep Finset.univ (fun j : Fin 7 => (iprop(dutyTok ER (barCell (peer c j)) 0 j.rev ∗ reached ER (barCell (peer c j)) 0) : sProp 𝕄))
      ∗ bigSep Finset.univ (fun k : Fin 28 => (reached ER (rcvCell c (src c k) (bb k)) 0 : sProp 𝕄))
      ∗ bigSep Finset.univ fun j : Fin 7 => bigSep Finset.univ fun b : Fin 4 => iprop(∃ f, slotPt (F := F) c (peer c j) b fullShare f))
    ⊢ bigSep Finset.univ (sigRes (F := F) c) := by
  rw [show bigSep Finset.univ (fun k : Fin 28 => (reached ER (rcvCell c (src c k) (bb k)) 0 : sProp 𝕄)) = _
      from by_jobs (fun j b => (reached ER (rcvCell c (peer c j) b) 0 : sProp 𝕄)), ← bigSep_sep', ← bigSep_sep']
  refine bigSep_mono fun j _ => ?_
  unfold sigRes barPay
  rw [peer_rev]
  show (_ : sProp 𝕄) ⊢ (_ : sProp 𝕄)
  iintro ⟨⟨H1, H2⟩, H3, H4⟩
  isplitl [H1]; · iexact H1
  isplitl [H2]; · iexact H2
  iapply sep_pair
  isplitl [H4] <;> iassumption

theorem sems_intro (c : Dev nD) :
    iprop(semsZero (F := F) c ∗ bigSep Finset.univ (fun b : Fin 4 => semVal (rcvCell c c b) 0))
      ⊢ iprop(Pipeline.ownSems0 osem c ∗ semVal (barCell c) 0) := by
  unfold Pipeline.ownSems0 semsZero
  rw [by_cells c (fun sm => (semVal ((c : Thread nD τ), sm) 0 : sProp 𝕄))]
  iintro ⟨⟨H1, H2, H3⟩, H4⟩
  isplitr [H1]
  · isplitl [H2]; · iexact H2
    isplitl [H4] <;> iassumption
  iexact H1

set_option maxHeartbeats 1000000 in
theorem body_ob (c : Dev nD) : BodyObligation (dat (F := F) m c) defs₀ 𝒱₀ () Set.univ := fun t => by
  obtain rfl := fin_N0 t
  rw [bigSep_W0, bigSep_W0, Φ_first, Φ_last]
  simp only [owns_whole_eq, before0, before1, before2, before3]
  unfold Xk scrAny
  iintro ⟨⟨⟨%f, Hs⟩, Hp, ⟨%K, #HI⟩, Hb, Hd, Hr, Ht, Hi⟩, HO, ⟨%d0, %f0, %h0, H0⟩, ⟨%d1, %f1, %h1, H1⟩, ⟨%d2, %f2, %h2, H2⟩, ⟨%d3, %f3, %h3, H3⟩, ⟨%d4, %f4, %h4, H4⟩⟩
  subst h0 h1 h2 h3
  ihave HO := (owesAt_out m c _ (O₀ c) (owed_first m c)) $$ HO
  icases HO with ⟨%W, HO⟩
  ihave Hs := (entry_slots c f) $$ Hs
  icases Hs with ⟨Hown, Hpeer⟩
  ihave Hsig := (sig_intro (F := F) c) $$ [Hd Hr Hpeer]
  · isplitl [Hd]; · iexact Hd
    isplitl [Hr] <;> iassumption
  iapply (body_run (gath m) K c fullShare fullShare fullShare fullShare (V m c main_v1) (V m c main_arg1) (V m c main_arg4) (V m c main_v4) f4
    (gath_own m c))
  unfold stg
  isplitl [Hsig HO]
  · unfold SigSt
    rw [from_zero]
    isplitr; · iexact HI
    isplitl [Hsig]; · iexact Hsig
    iexists W; iexact HO
  isplitl [Hb]; · iexact Hb
  isplitl [Ht]; · iexact Ht
  isplitl [Hown]; · iexact Hown
  isplitl [H0 H1 H2 H3 H4]
  · isplitl [H0]; · iexact H0
    isplitl [H1]; · iexact H1
    isplitl [H2]; · iexact H2
    isplitl [H3]; · iexact H3
    iexact H4
  iintro ⟨Hz, Hs, ⟨H0, H1, H2, H3, H4⟩, ⟨%W', HO⟩⟩
  ihave Hz := (sems_intro (F := F) c) $$ [Hz Hi]
  · isplitl [Hz] <;> iassumption
  ihave HO := (owesAt_in m c _ 0 (owed_last m c) W') $$ HO
  isplitl [Hs Hp Hz]
  · isplitl [Hs]; · iexists _; iexact Hs
    isplitl [Hp]; · iexact Hp
    iexact Hz
  isplitl [HO]; · iexact HO
  isplitl [H0]
  · iexists (V m c main_v1); isplitr; · ipureintro; rfl
    iexact H0
  isplitl [H1]
  · iexists (V m c main_arg1); isplitr; · ipureintro; rfl
    iexact H1
  isplitl [H2]
  · iexists (V m c main_arg4); isplitr; · ipureintro; rfl
    iexact H2
  isplitl [H3]
  · iexists (V m c main_v4); isplitr; · ipureintro; rfl
    iexact H3
  iexists (outV m c); isplitr; · ipureintro; rfl
  iexact H4

end Cert.KernelIdeal.Own

end
-- ==== Proof.Launch.lean ====
/-
  The launch of the kernel: the region as a segment of the program, the ghost state dealt to the devices, and the run.
-/
module

public import proofs.«01_k».proof.Proof.Entry

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]
local notation "𝕄" => MT nD τ sig Unit (Elt F) ℕ UU ℕ

variable (m : (ℓ : Loc nD τ sig) → Buf (Elt F) ℓ)

/-! ## Into the region and out of it -/

/-- What a device carries to the region: the invariants, its barrier position, the rights to open its transfer cells,
    the tokens of the duties it pays, and the credits it waits with. -/
def Tk (c : Dev nD) : sProp 𝕄 :=
  iprop((∃ K, records (gath m) K)
    ∗ bigSep Finset.univ (fun j : Fin 7 => iprop(dutyTok ER (barCell (peer c j)) 0 j.rev ∗ reached ER (barCell (peer c j)) 0))
    ∗ atPos ER (barCell c) 0 ∅ 0
    ∗ bigSep Finset.univ (fun k : Fin 60 => openTok ER ((c : Thread nD τ), osem k))
    ∗ bigSep Finset.univ (fun k : Fin 28 => dutyTok ER (sndCell c k) 0 0)
    ∗ bigSep Finset.univ (fun k : Fin 28 => dutyTok ER (rcvCell (peer c (jj k)) c (bb k)) 0 0)
    ∗ cred (tallyAt (barCell c) () 7)
    ∗ bigSep Finset.univ (fun k : Fin 28 => cred (tallyAt (rcvCell c (src c k) (bb k)) () N)))

theorem open_at (K : GSem nD τ sig → ℕ) {g : GSem nD τ sig} (h : g ∈ barCells ∪ scCells) :
    iprop(records (gath m) K ∗ (openTok ER g ∗ semVal g 0)) ⊢ (|={Set.univ}=> iprop(atPos ER g 0 ∅ 0 ∗ reached ER g 0) : sProp 𝕄) := by
  iintro ⟨#HI, Ho, Hv⟩
  iapply (Rounds.cell_open ER (Rd (gath m)) (g := g) (κ := K g) (Set.mem_univ _))
  isplitr; · iapply (inv_at (gath m) K h); iexact HI
  isplitl [Ho] <;> iassumption

theorem open_all (K : GSem nD τ sig → ℕ) (g : Fin 28 → GSem nD τ sig) (h : ∀ k, g k ∈ barCells ∪ scCells) :
    iprop(records (gath m) K ∗ bigSep Finset.univ (fun k => openTok ER (g k)) ∗ bigSep Finset.univ (fun k => semVal (g k) 0))
      ⊢ (|={Set.univ}=> iprop(bigSep Finset.univ (fun k => atPos ER (g k) 0 ∅ 0) ∗ bigSep Finset.univ (fun k => reached ER (g k) 0)) : sProp 𝕄) := by
  rw [← bigSep_sep', ← bigSep_sep']
  exact (bigSep_with_persistent fun k _ => open_at m K (h k)).trans (BI.bigSep_fupd _ _)

theorem hopen (c : Dev nD) : iprop(Tk m c ∗ Pipeline.ownSems0 osem c ∗ levAts L lv) ⊢ (|={Set.univ}=> Xk m c : sProp 𝕄) := by
  unfold Pipeline.ownSems0 Tk Xk barRes talk
  rw [by_cells c (fun sm => (semVal ((c : Thread nD τ), sm) 0 : sProp 𝕄)), by_cells c (fun sm => (openTok ER ((c : Thread nD τ), sm) : sProp 𝕄))]
  iintro ⟨⟨⟨%K, #HI⟩, Hbt, Hbp, ⟨Hos, -, Hor⟩, Hts, Htr, Hcb, Hcr⟩, ⟨Hvs, Hvi, Hvr⟩, #Hlev⟩
  imod (open_all m K (fun k => sndCell c k) (fun k => mem_snd c k)) $$ [Hos Hvs] with ⟨Hps, Hrs⟩
  · isplitr; · iexact HI
    isplitl [Hos] <;> iassumption
  imod (open_all m K (fun k => rcvCell c (src c k) (bb k)) (fun k => mem_rcv c _ _)) $$ [Hor Hvr] with ⟨Hpr, Hrr⟩
  · isplitr; · iexact HI
    isplitl [Hor] <;> iassumption
  imodintro
  isplitr; · iexists K; iexact HI
  isplitl [Hbp Hcb]
  · isplitr; · iexact Hlev
    isplitl [Hcb] <;> iassumption
  isplitl [Hbt]; · iexact Hbt
  isplitl [Hrr]; · iexact Hrr
  isplitr [Hvi]
  · isplitl [Hts Hrs Htr]
    · unfold sendTok
      iapply sep_pair; isplitl [Hts]; · iexact Hts
      iapply sep_pair; isplitl [Hrs] <;> iassumption
    isplitl [Hpr Hcr]
    · unfold rwRes
      iapply sep_pair; isplitl [Hpr] <;> iassumption
    iexact Hps
  iexact Hvi

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

theorem owed0 (c : Dev nD) : (pdats m 0 c).owed 0 = O₀ c := by
  show (if ((0 : Fin (cfg0.N + 1)).val = 0) then O₀ c else 0) = O₀ c; exact if_pos rfl
theorem owedN (c : Dev nD) : (pdats m 0 c).owed (Fin.last _) = 0 := by
  show (if (Fin.last cfg0.N).val = 0 then O₀ c else 0) = 0
  rw [Fin.val_last, if_neg (by rw [show cfg0.N = 1 from N_0]; decide)]

/-- The buffers the program holds beside the region's arrays. -/
abbrev bufs : Finset (DevRef τ sig) := Pipeline.ucRefs τ sig
abbrev arrs : Finset (DevRef τ sig) := Pipeline.arrRefs (τ := τ) spec0
abbrev rest : Finset (DevRef τ sig) := bufs \ arrs

/-- The buffers when the region is left: the output array rewritten. -/
def W' (c : Dev nD) : Valuation τ sig (Elt F) :=
  Pipeline.withArrays spec0 c (V0 m c) (fun w => (dat m c).arrAt w cfg0.N)

theorem hin (c : Dev nD) : iprop(Pipeline.scopedRest (Pipeline.pin (pcfgs (F := F)) adm 0).spec c ∗ (∃ r, prngReg c r)
      ∗ StableHlo.held (c.tc : Thread nD τ) ∅ (V0 m c) ∗ Xk m c) ⊢ (pdats m 0 c).Φ 0 := by
  rw [show (pdats m 0 c).Φ 0 = iprop(scrAny c ∗ (∃ r, prngReg c r) ∗ Xk m c) from rfl]
  show iprop(Pipeline.scopedRest spec0 c ∗ _) ⊢ _
  rw [scopedRest0_eq]
  unfold scrAny stg
  iintro ⟨Hs, Hp, -, HX⟩
  isplitl [Hs]; · iexact Hs
  isplitl [Hp] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W' m c) ∗ Pipeline.ownSems0 osem c ∗ semVal (barCell c) 0) := by
  rw [show (pdats m 0 c).Φ (Fin.last _) = iprop(scrAny c ∗ (∃ r, prngReg c r) ∗ Pipeline.ownSems0 osem c ∗ semVal (barCell c) 0) from rfl]
  show _ ⊢ iprop(Pipeline.scopedRest spec0 c ∗ _)
  rw [scopedRest0_eq]
  unfold scrAny stg StableHlo.held
  rw [bigSep_empty]
  iintro ⟨Hs, Hp, Ho, Hb⟩
  isplitl [Hs]; · iexact Hs
  isplitl [Hp]; · iexact Hp
  isplitr; · iempintro
  isplitl [Ho] <;> iassumption

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases O₀_pos h with ⟨d, b, rfl⟩ | ⟨d, rfl⟩
    · exact ⟨by rw [L_tc]; exact Finset.mem_singleton_self _, by rw [lv_rcv]; decide⟩
    · exact ⟨by rw [L_tc]; exact Finset.mem_singleton_self _, by show 0 < 1; decide⟩
  · exact absurd h (Nat.lt_irrefl 0)

theorem keeps (c : Dev nD) (b : DevRef τ sig) (hb : b ∈ rest \ (∅ : Finset (DevRef τ sig))) : W' m c b = V0 m c b := by
  unfold W' Pipeline.withArrays
  rw [dif_neg]
  rintro ⟨w, rfl⟩
  refine (Finset.mem_sdiff.mp (Finset.mem_sdiff.mp hb).1).2 ?_
  exact Finset.mem_map.mpr ⟨_, Finset.mem_image.mpr ⟨w, Finset.mem_univ _, rfl⟩, rfl⟩

theorem stage_lv : ∀ (w : Fin 5) (s : Fin (spec0 w).nbuf), ((spec0 w).sem s).val < 33 := by decide

theorem arrRef_inj : Function.Injective (Pipeline.arrRef spec0) := by decide

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest (Finset.empty_subset _) launch0.toP rfl (fun c => (body_ob m c).loose)
    (fun _ => 0) O₀ (fun c => (owed0 m c).trans (zero_add _).symm) (owedN m) (fun _ => rfl) (fun _ w => by first | rfl | (fin_cases w <;> rfl))
    (V0 m) (W' m) (keeps m)
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => le_of_eq (if_neg (Nat.not_le.mpr (stage_lv w s))), fun c t g i h => cutD m c t g i h⟩
    (fun _ => iprop(emp))
    (fun _ w => rfl) (fun c w => (Pipeline.withArrays_arr spec0 arrRef_inj c (V0 m c) (fun w => (dat m c).arrAt w cfg0.N) w).symm)

/-! ## The segments -/

def R (c : Dev nD) : sProp 𝕄 := iprop((Tk m c ∗ ∃ r, prngReg c r) ∗ ∃ Wd, owes (c : Thread nD τ) (O₀ c) Wd)
def R' (c : Dev nD) : sProp 𝕄 := iprop(semVal (barCell c) 0 ∗ ∃ Wd, owes (c : Thread nD τ) (0 : CellTallies nD τ sig Unit) Wd)

theorem ops0_sub : ∀ op ∈ (hostOps0 : List (HloOp τ sig (Elt F))), op.bufs ⊆ bufs := fun op h =>
  Pipeline.sub_ucRefs op (List.forall_iff_forall_mem.mp hostOps0_sub op h)
theorem ops1_sub : ∀ op ∈ (hostOps1 : List (HloOp τ sig (Elt F))), op.bufs ⊆ bufs := fun op h =>
  Pipeline.sub_ucRefs op (List.forall_iff_forall_mem.mp hostOps1_sub op h)

def seg0 : Pipeline.HostSeg (Name := ℕ) (U := UU) (pcfgs (F := F)) defs₀ 𝒱₀ L lv :=
  Pipeline.HostSeg.ofOps _ _ _ _ _ bufs hostOps0 ops0_sub (List.forall_iff_forall_mem.mp hostOps0_fresh) (fun c b => m (c, b)) (R m)
def seg1 : Pipeline.HostSeg (Name := ℕ) (U := UU) (pcfgs (F := F)) defs₀ 𝒱₀ L lv :=
  Pipeline.HostSeg.ofOps _ _ _ _ _ bufs hostOps1 ops1_sub (List.forall_iff_forall_mem.mp hostOps1_fresh) (W' m) R'

theorem arrs_sub : arrs ⊆ bufs := Pipeline.arrRefs_sub_ucRefs spec0 winFacts0.arr_unscoped

theorem reg_pre (c : Dev nD) : iprop(StableHlo.held (c : Thread nD τ) bufs (V0 m c) ∗ R m c) ⊢ (reg m).pre c := by
  show _ ⊢ iprop(StableHlo.held (c.tc : Thread nD τ) arrs (V0 m c) ∗ (∃ r, prngReg c r)
    ∗ (StableHlo.held (c.tc : Thread nD τ) rest (V0 m c) ∗ emp) ∗ Tk m c ∗ ∃ Wd, owes (c : Thread nD τ) (0 + O₀ c) Wd)
  rw [zero_add, StableHlo.held_sub_split (c.tc : Thread nD τ) arrs_sub (V0 m c)]
  unfold R
  iintro ⟨⟨Ha, Hr⟩, ⟨HT, Hp⟩, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) bufs (W' m c) ∗ R' c) := by
  show iprop(StableHlo.held (c.tc : Thread nD τ) arrs (W' m c) ∗ (∃ r, prngReg c r)
    ∗ (StableHlo.held (c.tc : Thread nD τ) rest (W' m c) ∗ emp) ∗ semVal (barCell c) 0
      ∗ ∃ Wd, owes (c : Thread nD τ) (0 : CellTallies nD τ sig Unit) Wd) ⊢ _
  rw [StableHlo.held_sub_split (c.tc : Thread nD τ) arrs_sub (W' m c)]
  unfold R'
  iintro ⟨Ha, -, ⟨Hr, -⟩, Hb, HO⟩
  isplitl [Ha Hr]; · isplitl [Ha] <;> iassumption
  isplitl [Hb] <;> iassumption

def segs : List (Pipeline.Seg (pcfgs (F := F)) adm (pdats m) () defs₀ 𝒱₀ L lv) := [.host (seg0 m), .region (reg m), .host (seg1 m)]

theorem main_eq (c : Dev nD) : main (F := F) c = Pipeline.Seg.run (segs m) :=
  main_segs adm (pdats m) () 𝒱₀ L lv (seg0 m) (seg1 m) (reg m) rfl rfl c

/-! ## The ghost state at launch -/

/-- Every duty, listed under the device that pays it. -/
def tokAt : (Dev nD × Fin 7) ⊕ (Dev nD × Fin 28) ⊕ (Dev nD × Fin 28) → GSem nD τ sig × ℕ × D
  | .inl p => (barCell (peer p.1 p.2), 0, p.2.rev)
  | .inr (.inl p) => (sndCell p.1 p.2, 0, 0)
  | .inr (.inr p) => (rcvCell (peer p.1 (jj p.2)) p.1 (bb p.2), 0, 0)

theorem rcvS_inj {s s' : Dev nD} {b b' : Fin 4} (h : rcvS s b = rcvS s' b') : s = s' ∧ b = b' := by
  simp only [rcvS, Fin.mk.injEq] at h
  have := b.isLt; have := b'.isLt
  exact ⟨Fin.ext (by omega), Fin.ext (by omega)⟩
theorem sndS_inj {k k' : Fin 28} (h : sndS k = sndS k') : k = k' := by
  simp only [sndS, Fin.mk.injEq] at h; exact Fin.ext (by omega)
theorem snd_ne_rcv (k : Fin 28) (s : Dev nD) (b : Fin 4) : sndS k ≠ rcvS s b := by
  intro h; simp only [sndS, rcvS, Fin.mk.injEq] at h; have := k.isLt; omega
theorem job_ext {k k' : Fin 28} (h1 : jj k = jj k') (h2 : bb k = bb k') : k = k' := by
  simp only [jj, bb, Fin.mk.injEq] at h1 h2; exact Fin.ext (by omega)

theorem cell_dev {a b : Dev nD} {s t : SemLoc sig} (h : (((a : Thread nD τ), s) : GSem nD τ sig) = ((b : Thread nD τ), t)) : a = b :=
  congrArg (fun g : GSem nD τ sig => g.1.1) h
theorem cell_sem {a b : Dev nD} {s t : SemLoc sig} (h : (((a : Thread nD τ), s) : GSem nD τ sig) = ((b : Thread nD τ), t)) : s = t :=
  congrArg (fun g : GSem nD τ sig => g.2) h
theorem cell_dma {a b : Dev nD} {s t : DmaSem sig} (h : (((a : Thread nD τ), SemLoc.dma s) : GSem nD τ sig) = ((b : Thread nD τ), SemLoc.dma t)) :
    s = t := SemLoc.dma.inj (cell_sem h)
theorem cell_reg {a b : Dev nD} {s : Sem sig} {t : DmaSem sig} (h : (((a : Thread nD τ), SemLoc.reg s) : GSem nD τ sig) = ((b : Thread nD τ), SemLoc.dma t)) :
    False := by have := cell_sem h; cases this

theorem tokAt_inj : Function.Injective tokAt := by
  rintro (⟨c, j⟩ | ⟨c, k⟩ | ⟨c, k⟩) (⟨c', j'⟩ | ⟨c', k'⟩ | ⟨c', k'⟩) h <;> have hg := congrArg Prod.fst h <;> dsimp only [tokAt] at hg
  · have hj : j.rev = j'.rev := congrArg (fun t : GSem nD τ sig × ℕ × D => t.2.2) h
    obtain rfl := Fin.rev_injective hj
    have hc := cell_dev hg
    have : c = c' := by rw [← peer_rev c j, hc, peer_rev]
    rw [this]
  · exact (cell_reg hg).elim
  · exact (cell_reg hg).elim
  · exact (cell_reg hg.symm).elim
  · obtain rfl := cell_dev hg; rw [sndS_inj (cell_dma hg)]
  · exact absurd (cell_dma hg) (snd_ne_rcv _ _ _)
  · exact (cell_reg hg.symm).elim
  · exact absurd (cell_dma hg).symm (snd_ne_rcv _ _ _)
  · obtain ⟨rfl, hb⟩ := rcvS_inj (cell_dma hg)
    rw [job_ext (peer_inj c _ _ (cell_dev hg)) hb]

def toks : Finset (GSem nD τ sig × ℕ × D) := Finset.univ.map ⟨tokAt, tokAt_inj⟩

theorem toks_eq : bigSep toks (fun x => (dutyTok ER x.1 x.2.1 x.2.2 : sProp 𝕄))
    = iprop(bigSep Finset.univ (fun c : Dev nD => bigSep Finset.univ fun j : Fin 7 => dutyTok ER (barCell (peer c j)) 0 j.rev)
      ∗ bigSep Finset.univ (fun c : Dev nD => bigSep Finset.univ fun k : Fin 28 => dutyTok ER (sndCell c k) 0 0)
      ∗ bigSep Finset.univ (fun c : Dev nD => bigSep Finset.univ fun k : Fin 28 => dutyTok ER (rcvCell (peer c (jj k)) c (bb k)) 0 0)) := by
  unfold toks
  rw [bigSep_map, bigSep_univ_sum, bigSep_univ_sum, bigSep_univ_prod, bigSep_univ_prod, bigSep_univ_prod]
  rfl

theorem disjoint_cells : Disjoint barCells scCells := by
  rw [Finset.disjoint_left]
  rintro g h₁ h₂
  obtain ⟨c, -, rfl⟩ := Finset.mem_map.mp h₁
  obtain ⟨ck, -, h⟩ := Finset.mem_map.mp h₂
  exact cell_reg h.symm

/-! ## The credit at launch -/

theorem bar_count : ∀ c : Dev nD, (∑ d : Dev nD, ∑ j : Fin 7, if c = peer d j then 1 else 0) = 7 := by decide
theorem rcv_count : ∀ (c : Dev nD) (k : Fin 28),
    (∑ d : Dev nD, ∑ k' : Fin 28, if c = peer d (jj k') ∧ src c k = d ∧ bb k = bb k' then 1 else 0) = 1 := by decide +kernel

theorem sum_at {n : ℕ} (f : Fin n → GSem nD τ sig) (a : ℕ) (g : GSem nD τ sig) :
    (∑ k ∈ from_ 0, (tallyAt (f k) () a : CellTallies nD τ sig Unit)) g () = ∑ k, if g = f k then a else 0 := by
  rw [from_zero, Finset.sum_apply, Finsupp.finset_sum_apply]
  refine Finset.sum_congr rfl fun k _ => ?_
  rw [tallyAt_apply]; simp

theorem owed_bar (d c : Dev nD) : O₀ d (barCell c) () = ∑ j : Fin 7, if c = peer d j then 1 else 0 := by
  unfold O₀ owedRcv owedBar
  rw [Pi.add_apply, Finsupp.add_apply, sum_at, sum_at, Finset.sum_eq_zero fun k _ => if_neg fun h => cell_reg h, zero_add]
  refine Finset.sum_congr rfl fun j _ => ?_
  exact if_congr ⟨fun h => cell_dev h, fun h => by rw [h]⟩ rfl rfl

theorem owed_rcv (d c s : Dev nD) (b : Fin 4) :
    O₀ d (rcvCell c s b) () = N * ∑ k' : Fin 28, if c = peer d (jj k') ∧ s = d ∧ b = bb k' then 1 else 0 := by
  unfold O₀ owedRcv owedBar
  rw [Pi.add_apply, Finsupp.add_apply, sum_at, sum_at, Finset.sum_eq_zero (s := Finset.univ (α := Fin 7)) fun k _ => if_neg fun h => cell_reg h.symm, add_zero, Finset.mul_sum]
  refine Finset.sum_congr rfl fun j _ => ?_
  rw [mul_ite, mul_one, mul_zero]
  exact if_congr ⟨fun h => ⟨cell_dev h, rcvS_inj (cell_dma h)⟩, fun ⟨h1, h2, h3⟩ => by rw [← h1, ← h2, ← h3]⟩ rfl rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, bar_count]

theorem launch_rcv (c : Dev nD) (k : Fin 28) :
    tallyOn (rcvCell c (src c k) (bb k)) (launchCredit (Pipeline.owing O₀) 0 (rcvCell c (src c k) (bb k)))
      = (tallyAt (rcvCell c (src c k) (bb k)) () N : CellTallies nD τ sig Unit) := by
  unfold tallyAt; refine congrArg _ (Finsupp.ext fun u => ?_); cases u
  rw [Pipeline.launchCredit_owing, Finsupp.single_eq_same, Finset.sum_congr rfl fun d _ => owed_rcv d c (src c k) (bb k), ← Finset.mul_sum,
    rcv_count, mul_one]

/-- The receive semaphores a device waits on. -/
def rcvEmb (c : Dev nD) : Fin 28 ↪ SemLoc sig := ⟨fun k => .dma (rcvS (src c k) (bb k)), fun k k' h => by
  obtain ⟨h1, h2⟩ := rcvS_inj (SemLoc.dma.inj h)
  exact job_ext (peer_inj c _ _ h1) h2⟩

theorem creds (c : Dev nD) :
    (Pipeline.launchCred O₀ c : sProp 𝕄) ⊢ iprop(cred (tallyAt (barCell c) () 7)
      ∗ bigSep Finset.univ (fun k : Fin 28 => cred (tallyAt (rcvCell c (src c k) (bb k)) () N))) := by
  unfold Pipeline.launchCred
  rw [bigSep_univ_at _ (SemLoc.reg barS), launch_bar]
  refine sep_mono_right ?_
  refine (BI.bigSep_subset (t := Finset.univ.map (rcvEmb c)) fun s hs => ?_).trans ?_
  · obtain ⟨k, -, rfl⟩ := Finset.mem_map.mp hs
    exact Finset.mem_erase.mpr ⟨(fun h => by cases h), Finset.mem_univ _⟩
  · rw [bigSep_map]
    exact bigSep_mono fun k _ => Entails.of_eq (congrArg cred (launch_rcv c k))

/-! ## Dealing the ghost state -/

def u₀ : UU :=
  (initOf (Pipeline.cells (Pipeline.pin (pcfgs (F := F)) adm) cellOf_inj) (Pipeline.launchToks (Pipeline.pin (pcfgs (F := F)) adm) cellOf_inj),
    launchOf barCells scCells toks)

/-- A resource of the whole machine, put at device 0. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def G₀ : Dev nD → sProp 𝕄 := atZero (BI.own (ER (launchOf barCells scCells toks)))

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What every device may consult. -/
def shared (K : GSem nD τ sig → ℕ) : sProp 𝕄 := iprop(records (gath m) K ∗ bigSep barCells fun g => reached ER g 0)
instance shared_persistent (K : GSem nD τ sig → ℕ) : BI.Persistent (shared m K) := by unfold shared; infer_instance

theorem reached_at (c : Dev nD) : (bigSep barCells fun g => (reached ER g 0 : sProp 𝕄)) ⊢ reached ER (barCell c) 0 :=
  bigSep_elim (Finset.mem_map_of_mem barEmb (Finset.mem_univ c))

/-- What of the ghost state goes to device `c`. -/
def linear (c : Dev nD) : sProp 𝕄 :=
  iprop(atPos ER (barCell c) 0 ∅ 0 ∗ bigSep Finset.univ (fun k : Fin 60 => openTok ER ((c : Thread nD τ), osem k))
    ∗ (bigSep Finset.univ (fun j : Fin 7 => dutyTok ER (barCell (peer c j)) 0 j.rev)
      ∗ bigSep Finset.univ (fun k : Fin 28 => dutyTok ER (sndCell c k) 0 0)
      ∗ bigSep Finset.univ (fun k : Fin 28 => dutyTok ER (rcvCell (peer c (jj k)) c (bb k)) 0 0)))

/-- What of a device's launch holdings is no ghost state. -/
def plain (c : Dev nD) : sProp 𝕄 :=
  iprop(StableHlo.held (c : Thread nD τ) bufs (fun b => m (c, b)) ∗ owes (c : Thread nD τ) (O₀ c) ∅
    ∗ (cred (tallyAt (barCell c) () 7) ∗ bigSep Finset.univ (fun k : Fin 28 => cred (tallyAt (rcvCell c (src c k) (bb k)) () N)))
    ∗ ∃ r, prngReg c r)

abbrev T₀ (c : Dev nD) : sProp 𝕄 := iprop(StableHlo.held (c : Thread nD τ) bufs (fun b => m (c, b)) ∗ R m c)

theorem T₀_intro (K : GSem nD τ sig → ℕ) (c : Dev nD) : iprop(shared m K ∗ (linear c ∗ plain m c)) ⊢ T₀ m c := by
  unfold shared linear plain T₀ R Tk
  iintro ⟨⟨#HI, #HR⟩, ⟨Hp, Ho, Htb, Hts, Htr⟩, Hh, HO, ⟨Hcb, Hcr⟩, Hpr⟩
  ihave Htb := (bigSep_with_persistent (S := Finset.univ) (R := bigSep barCells fun g => (reached ER g 0 : sProp 𝕄))
    (Φ := fun j : Fin 7 => (dutyTok ER (barCell (peer c j)) 0 j.rev : sProp 𝕄))
    (Ψ := fun j => iprop(dutyTok ER (barCell (peer c j)) 0 j.rev ∗ reached ER (barCell (peer c j)) 0)) fun j _ => by
      iintro ⟨#HR, H⟩
      isplitl [H]; · iexact H
      iapply (reached_at (F := F) (peer c j)); iexact HR) $$ [Htb]
  · isplitr; · iexact HR
    iexact Htb
  isplitl [Hh]; · iexact Hh
  isplitr [HO]
  · isplitr [Hpr]
    · isplitr; · iexists K; iexact HI
      isplitl [Htb]; · iexact Htb
      isplitl [Hp]; · iexact Hp
      isplitl [Ho]; · iexact Ho
      isplitl [Hts]; · iexact Hts
      isplitl [Htr]; · iexact Htr
      isplitl [Hcb] <;> iassumption
    iexact Hpr
  iexists ∅; iexact HO

variable (ρ : Dev nD → PrngReg)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G₀ c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G₀ c)
      ⊢ (iprop(plain m c ∗ (semVal (barCell c) 0 ∗ G₀ c)) : sProp 𝕄) := by
    rw [show (unscopedBufs c (fun b => m ((c : Thread nD τ).loc b)) : sProp 𝕄) = StableHlo.held (c : Thread nD τ) bufs (fun b => m (c, b))
      from Pipeline.unscopedBufs_held c (fun b => m (c, b)), unscopedSems0_eq]
    unfold plain
    iintro ⟨Hh, Hus, HO, Hcr, Hp, HG⟩
    ihave Hc := (creds (F := F) c) $$ Hcr
    isplitl [Hh Hc HO Hp]
    · isplitl [Hh]; · iexact Hh
      isplitl [HO]; · iexact HO
      isplitl [Hc]; · iexact Hc
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 60 => openTok ER ((c : Thread nD τ), osem k)) :=
    Entails.of_eq (by unfold scCells; rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G₀ c))
      ⊢ (bigSep Finset.univ fun c : Dev nD => iprop(plain m c ∗ (semVal (barCell c) 0 ∗ G₀ c)) : sProp 𝕄) from bigSep_mono fun c _ => hcore c) $$ H
  ihave H := (sep_unpair (F := F)) $$ H; icases H with ⟨HB, H⟩
  ihave H := (sep_unpair (F := F)) $$ H; icases H with ⟨Hv, HG⟩
  ihave Hu := (show bigSep Finset.univ (G₀ (F := F)) ⊢ BI.own (ER (launchOf barCells scCells toks)) from
    Entails.of_eq (bigSep_atZero (F := F) (BI.own (ER (launchOf barCells scCells toks))))) $$ HG
  imod (Rounds.fund_launch ER (Rd (gath m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := shared m κ) (Φ := fun c => iprop(linear c ∗ plain m c)) fun c _ => T₀_intro m κ c)
  isplitr
  · unfold shared records
    isplitr; · iexact Hinv
    iexact Hr
  iapply (sep_pair (F := F))
  isplitr [HB]
  · unfold linear
    iapply (sep_pair (F := F)); isplitl [Hat]; · iapply hat $$ Hat
    iapply (sep_pair (F := F)); isplitl [Hopen]; · iapply hop $$ Hopen
    ihave Htok := (Entails.of_eq (toks_eq (F := F))) $$ Htok
    icases Htok with ⟨H1, H2, H3⟩
    iapply (sep_pair (F := F)); isplitl [H1]; · iexact H1
    iapply (sep_pair (F := F)); isplitl [H2] <;> iassumption
  · iexact HB

/-! ## The run -/

/-- The buffers at the end. -/
def Wn (c : Dev nD) : Valuation τ sig (Elt F) := StableHlo.after hostOps1 (W' m c)

abbrev Tₙ (c : Dev nD) : sProp 𝕄 := iprop(StableHlo.held (c : Thread nD τ) bufs (Wn m c) ∗ semVal (barCell c) 0)

def pt (c : Dev nD) (b : Ref sig .tc) (f : b.ty.Contents (Elt F)) : sProp 𝕄 := ((c : Thread nD τ).loc b) ↦{fullShare} f

theorem bufs_eq (c : Dev nD) (V : Valuation τ sig (Elt F)) : (StableHlo.held (c : Thread nD τ) bufs V : sProp 𝕄)
    ⊢ iprop(pt c main_arg0 (V main_arg0) ∗ pt c main_arg1 (V main_arg1)
      ∗ pt c main_arg2 (V main_arg2) ∗ pt c main_arg3 (V main_arg3)
      ∗ pt c main_arg4 (V main_arg4) ∗ pt c main_v6 (V main_v6)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v6, Proc.devRef .tc main_v1, Proc.devRef .tc main_v2, Proc.devRef .tc main_v3, Proc.devRef .tc main_v4,
    Proc.devRef .tc main_v5] (by decide) (by decide)]
  show iprop(pt c main_arg0 (V main_arg0) ∗ pt c main_arg1 (V main_arg1) ∗ pt c main_arg2 (V main_arg2) ∗ pt c main_arg3 (V main_arg3)
    ∗ pt c main_arg4 (V main_arg4) ∗ pt c main_v6 (V main_v6) ∗ _) ⊢ _
  iintro ⟨H0, H1, H2, H3, H4, H6, -⟩
  isplitl [H0]; · iexact H0
  isplitl [H1]; · iexact H1
  isplitl [H2]; · iexact H2
  isplitl [H3]; · iexact H3
  isplitl [H4] <;> iassumption

theorem unscoped_eq : ∀ sm : SemLoc sig, sm.isScoped .tc = false → sm = .reg barS := by decide

def Ends (c : Dev nD) (s : MemSt nD τ sig (Elt F)) : Prop :=
  (s.mem ((c : Thread nD τ).loc main_arg0) = Wn m c main_arg0 ∧ s.mem ((c : Thread nD τ).loc main_arg1) = Wn m c main_arg1
    ∧ s.mem ((c : Thread nD τ).loc main_arg2) = Wn m c main_arg2 ∧ s.mem ((c : Thread nD τ).loc main_arg3) = Wn m c main_arg3
    ∧ s.mem ((c : Thread nD τ).loc main_arg4) = Wn m c main_arg4) ∧ s.mem ((c : Thread nD τ).loc main_v6) = Wn m c main_v6

set_option backward.isDefEq.respectTransparency.types false in
theorem run_ends : θ_run defs (onTc (τ := τ) (main (F := F))) (s₀ m ρ)
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G₀) (u₀ := u₀ (F := F))
    (hu₀ := by
      unfold u₀ G₀
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := by
      refine ⟨fun c => .rfl, fun c => reg_pre m c, fun c => reg_post m c, fun c => ?_⟩
      show iprop(StableHlo.held (c : Thread nD τ) bufs (Wn m c) ∗ R' c)
        ⊢ iprop(Tₙ m c ∗ ∃ Wd, owes (c : Thread nD τ) (0 : CellTallies nD τ sig Unit) Wd)
      unfold R'
      iintro ⟨Hh, Hb, HO⟩
      isplitr [HO]
      · isplitl [Hh] <;> iassumption
      · iexact HO)
    (hinit := init m ρ)
    (QY := fun c s => Ends m c s ∧ s.sem (barCell c) = 0)
    (hfin := fun c s' => by
      dsimp only [Tₙ]
      iintro ⟨⟨Hh, Hb⟩, HSI⟩
      ihave H := (bufs_eq (F := F) c (Wn m c)) $$ Hh
      unfold pt
      icases H with ⟨H0, H1, H2, H3, H4, H6⟩
      icombine HSI H0 gives %h0
      icombine HSI H1 gives %h1
      icombine HSI H2 gives %h2
      icombine HSI H3 gives %h3
      icombine HSI H4 gives %h4
      icombine HSI H6 gives %h6
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4⟩, Buf.eq_of_forall_mem_univ h6⟩, by simpa using hb⟩
      iexact HSI)
    (hQ := fun s h hs => ⟨fun c => (h c).1, sem_eq_zero hs fun c sm hsm => by
        obtain rfl := unscoped_eq sm hsm
        exact (h c).2⟩)

theorem Wn_of (c : Dev nD) (b : Ref sig .tc) (hb : b ≠ main_v6) : Wn m c b = W' m c b :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem Wn_arg0 (c : Dev nD) : Wn m c main_arg0 = m ((c : Thread nD τ).loc main_arg0) :=
  (Wn_of m c main_arg0 (by decide)).trans ((Pipeline.withArrays_of_ne _ c (V0 m c) _ main_arg0 (by exact (by decide : ∀ w, Pipeline.arrRef spec0 w ≠ main_arg0))).trans (V_main_arg0 m c))
theorem Wn_arg2 (c : Dev nD) : Wn m c main_arg2 = m ((c : Thread nD τ).loc main_arg2) :=
  (Wn_of m c main_arg2 (by decide)).trans ((Pipeline.withArrays_of_ne _ c (V0 m c) _ main_arg2 (by exact (by decide : ∀ w, Pipeline.arrRef spec0 w ≠ main_arg2))).trans (V_main_arg2 m c))
theorem Wn_arg3 (c : Dev nD) : Wn m c main_arg3 = m ((c : Thread nD τ).loc main_arg3) :=
  (Wn_of m c main_arg3 (by decide)).trans ((Pipeline.withArrays_of_ne _ c (V0 m c) _ main_arg3 (by exact (by decide : ∀ w, Pipeline.arrRef spec0 w ≠ main_arg3))).trans (V_main_arg3 m c))
theorem Wn_arg1 (c : Dev nD) : Wn m c main_arg1 = m ((c : Thread nD τ).loc main_arg1) :=
  (Wn_of m c main_arg1 (by decide)).trans ((Pipeline.withArrays_arr spec0 arrRef_inj c (V0 m c) (fun w => (dat m c).arrAt w cfg0.N) 1).trans
    (((dat m c).arrAt_in 1 rfl _).trans (V_main_arg1 m c)))
theorem Wn_arg4 (c : Dev nD) : Wn m c main_arg4 = m ((c : Thread nD τ).loc main_arg4) :=
  (Wn_of m c main_arg4 (by decide)).trans ((Pipeline.withArrays_arr spec0 arrRef_inj c (V0 m c) (fun w => (dat m c).arrAt w cfg0.N) 2).trans
    (((dat m c).arrAt_in 2 rfl _).trans (V_main_arg4 m c)))

theorem arr_out (c : Dev nD) : (dat m c).arrAt 4 cfg0.N = outV m c := by
  show (if h : 0 < cfg0.N then if (cfg0.win 4).flush ⟨0, h⟩ then ((cfg0.win 4).blk ⟨0, h⟩).view.write (Elt F) ((dat m c).arrAt 4 0)
      ((dat m c).flushed 4 ⟨0, h⟩) Finset.univ else (dat m c).arrAt 4 0 else (dat m c).arrAt 4 0) = _
  rw [dif_pos (by decide), if_pos (by decide)]
  exact write_blk4 _ _ _

/-- The result. -/
theorem Wn_v6 (c : Dev nD) : Wn m c main_v6 = shapeCast S2x128x512 (outV m c) shapeCasts_S256x512_S2x128x512 := by
  unfold Wn hostOps1
  rw [StableHlo.after_cons, StableHlo.after_nil, StableHlo.reshape_result]
  rw [show W' m c main_v5 = outV m c from
    (Pipeline.withArrays_arr spec0 arrRef_inj c (V0 m c) (fun w => (dat m c).arrAt w cfg0.N) 4).trans (arr_out m c)]
  rfl

/-- The run: it ends, with the arguments as launched, the result at `outV` in its printed shape, and every semaphore at zero. -/
theorem run_main : θ_run defs (onTc (τ := τ) (main (F := F))) (s₀ m ρ)
    (fun r => (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v6) = shapeCast S2x128x512 (outV m c) shapeCasts_S256x512_S2x128x512)
      ∧ r.2.sem = fun _ => 0) :=
  (θ_run defs _ _).mono (fun r h => ⟨fun c => by
    obtain ⟨⟨h0, h1, h2, h3, h4⟩, h6⟩ := h.1 c
    exact ⟨⟨h0.trans (Wn_arg0 m c), h1.trans (Wn_arg1 m c), h2.trans (Wn_arg2 m c), h3.trans (Wn_arg3 m c), h4.trans (Wn_arg4 m c)⟩,
      h6.trans (Wn_v6 m c)⟩, h.2⟩) (run_ends m ρ)

end Cert.KernelIdeal.Own

end
-- ==== Proof.Attn.lean ====
/-
  What one device computes, read at an index: for each batch row and head a softmax of scaled scores times the values, then
  the output projection.
-/
module

public import proofs.«01_k».proof.Proof.Launch
public import Idealize.ShloMosaic.Lib.Pointwise

@[expose] public section

noncomputable section

namespace Cert.KernelIdeal.Attn

open Cert.KernelIdeal Cert.KernelIdeal.Gen Cert.KernelIdeal.Own
open Idealize.ShloMosaic Idealize.ShloMosaic.TcCoe

/-- The attention of a block of query rows `A` over keys `k` and values `v`, in the kernel's operations. -/
def att (A : FVec Ideal S512x64 .f32) (k v : FVec Ideal S1024x64 .f32) : FVec Ideal S512x64 .f32 :=
  let s : FVec Ideal S512x1024 .f32 := mulf (matmul dot_S512x64_S1024x64_S512x1024_1_1_0_0_n_n none A k (constant S512x1024 .f32 0x00000000#32))
    (broadcast S512x1024 (Scalar.ofBits .f32 0x3E000000#32))
  let p : FVec Ideal S512x1024 .f32 := exp (subf s (broadcastTo S512x1024
    (shapeCast S512x1 (multiReduction .maximumf [1] S512 s 0xFF800000#32 reduces_S512x1024_S512 (.inl rfl) rfl) shapeCasts_S512_S512x1)
    broadcasts_S512x1_S512x1024))
  divf (matmul dot_S512x1024_S1024x64_S512x64_1_0_0_1_n_n none p v (constant S512x64 .f32 0x00000000#32))
    (broadcastTo S512x64 (shapeCast S512x1 (multiReduction .add [1] S512 p 0x00000000#32 reduces_S512x1024_S512 (.inl rfl) rfl) shapeCasts_S512_S512x1)
      broadcasts_S512x1_S512x64)

/-- The factor on the scores, and the initial value of a maximum, as extended reals. -/
abbrev cs : EReal := Ideal.ofBits FTy.f32 0x3E000000#32
abbrev lo : EReal := Ideal.ofBits FTy.f32 0xFF800000#32

/-- The greatest score of a query row. -/
def top (q : Fin 64 → EReal) (k : Fin 1024 → Fin 64 → EReal) : EReal :=
  Finset.fold max lo (fun j => (∑ e, q e * k j e) * cs) Finset.univ

/-- One element of the attention: a query row, the keys, and one column of the values. -/
def soft (q : Fin 64 → EReal) (k : Fin 1024 → Fin 64 → EReal) (v : Fin 1024 → EReal) : EReal :=
  Ideal.div (∑ j, Ideal.exp ((∑ e, q e * k j e) * cs - top q k) * v j) (∑ j, Ideal.exp ((∑ e, q e * k j e) * cs - top q k))

theorem att_apply (A : FVec Ideal S512x64 .f32) (k v : FVec Ideal S1024x64 .f32) (r : Fin 512) (d : Fin 64) :
    att A k v (ix2 r d) = soft (fun e => A (ix2 r e)) (fun j e => k (ix2 j e)) (fun j => v (ix2 j d)) := by
  unfold att soft top
  pointwise

/-- The query rows of four heads, one under the other. -/
def qg (q : FVec Ideal S256x512 .f32) (o c0 c1 c2 c3 : ℕ) (h0 : S256x512.Slices ![o, c0] S128x64) (h1 : S256x512.Slices ![o, c1] S128x64)
    (h2 : S256x512.Slices ![o, c2] S128x64) (h3 : S256x512.Slices ![o, c3] S128x64) : FVec Ideal S512x64 .f32 :=
  concatenate S512x64 0 [⟨S128x64, extractStridedSlice S128x64 ![o, c0] q h0⟩, ⟨S128x64, extractStridedSlice S128x64 ![o, c1] q h1⟩,
    ⟨S128x64, extractStridedSlice S128x64 ![o, c2] q h2⟩, ⟨S128x64, extractStridedSlice S128x64 ![o, c3] q h3⟩]
    concatenates_S128x64_S128x64_S128x64_S128x64_S512x64_d0

def A00 (q : FVec Ideal S256x512 .f32) : FVec Ideal S512x64 .f32 := qg q 0 0 64 128 192
  slices_S256x512_o0_0_S128x64 slices_S256x512_o0_64_S128x64 slices_S256x512_o0_128_S128x64 slices_S256x512_o0_192_S128x64
def A01 (q : FVec Ideal S256x512 .f32) : FVec Ideal S512x64 .f32 := qg q 0 256 320 384 448
  slices_S256x512_o0_256_S128x64 slices_S256x512_o0_320_S128x64 slices_S256x512_o0_384_S128x64 slices_S256x512_o0_448_S128x64
def A10 (q : FVec Ideal S256x512 .f32) : FVec Ideal S512x64 .f32 := qg q 128 0 64 128 192
  slices_S256x512_o128_0_S128x64 slices_S256x512_o128_64_S128x64 slices_S256x512_o128_128_S128x64 slices_S256x512_o128_192_S128x64
def A11 (q : FVec Ideal S256x512 .f32) : FVec Ideal S512x64 .f32 := qg q 128 256 320 384 448
  slices_S256x512_o128_256_S128x64 slices_S256x512_o128_320_S128x64 slices_S256x512_o128_384_S128x64 slices_S256x512_o128_448_S128x64

/-- The eight heads of one batch side by side, from its two groups of four. -/
def cat8 (a b : FVec Ideal S512x64 .f32) : FVec Ideal S128x512 .f32 :=
  concatenate S128x512 1 [⟨S128x64, extractStridedSlice S128x64 ![0, 0] a slices_S512x64_o0_0_S128x64⟩,
    ⟨S128x64, extractStridedSlice S128x64 ![128, 0] a slices_S512x64_o128_0_S128x64⟩,
    ⟨S128x64, extractStridedSlice S128x64 ![256, 0] a slices_S512x64_o256_0_S128x64⟩,
    ⟨S128x64, extractStridedSlice S128x64 ![384, 0] a slices_S512x64_o384_0_S128x64⟩,
    ⟨S128x64, extractStridedSlice S128x64 ![0, 0] b slices_S512x64_o0_0_S128x64⟩,
    ⟨S128x64, extractStridedSlice S128x64 ![128, 0] b slices_S512x64_o128_0_S128x64⟩,
    ⟨S128x64, extractStridedSlice S128x64 ![256, 0] b slices_S512x64_o256_0_S128x64⟩,
    ⟨S128x64, extractStridedSlice S128x64 ![384, 0] b slices_S512x64_o384_0_S128x64⟩]
    concatenates_S128x64_S128x64_S128x64_S128x64_S128x64_S128x64_S128x64_S128x64_S128x512_d1

/-- The attention of both batches, before the output projection. -/
def cat (q : FVec Ideal S256x512 .f32) (G : GBuf Ideal) : FVec Ideal S256x512 .f32 :=
  concatenate S256x512 0 [⟨S128x512, cat8 (att (A00 q) (k00 G) (v00 G)) (att (A01 q) (k01 G) (v01 G))⟩,
    ⟨S128x512, cat8 (att (A10 q) (k10 G) (v10 G)) (att (A11 q) (k11 G) (v11 G))⟩] concatenates_S128x512_S128x512_S256x512_d0

theorem outOf_eq (q : FVec Ideal S256x512 .f32) (G : GBuf Ideal) (w : FVec Ideal S512x512 .f32) :
    outOf (F := Ideal) q G w = matmul dot_S256x512_S512x512_S256x512_1_0_0_1_n_n none (cat q G)
      (shapeCast S512x512 w shapeCasts_S512x512_S512x512) (constant S256x512 .f32 0x00000000#32) := by
  unfold outOf k0_pay16 k0_pay12 k0_pay8 k0_pay9 k0_pay10 k0_pay11 k0_pay7 k0_pay14 k0_pay15 k0_pay13
  rfl

/-- Two reads of an array of two axes at equal coordinates. -/
theorem at2 {m n : ℕ} {α : Type} (f : (⟨2, ![m, n]⟩ : Shape).Idx → α) {a a' : Fin m} {b b' : Fin n} (h1 : a.val = a'.val) (h2 : b.val = b'.val) :
    f (ix2 a b) = f (ix2 a' b') := by rw [Fin.ext h1, Fin.ext h2]

theorem qg_apply (q : FVec Ideal S256x512 .f32) (o c : ℕ) (h0 : S256x512.Slices ![o, c] S128x64) (h1 : S256x512.Slices ![o, c + 64] S128x64)
    (h2 : S256x512.Slices ![o, c + 128] S128x64) (h3 : S256x512.Slices ![o, c + 192] S128x64) (g : Fin 4) (i : Fin 128) (e : Fin 64)
    (x : Fin 512) (hx : x.val = 128 * g.val + i.val) (y : Fin 256) (hy : y.val = o + i.val) (z : Fin 512) (hz : z.val = c + 64 * g.val + e.val) :
    qg q o c (c + 64) (c + 128) (c + 192) h0 h1 h2 h3 (ix2 x e) = q (ix2 y z) := by
  unfold qg
  pointwise
  split_ifs <;> refine at2 q ?_ ?_ <;> simp only [] <;> omega

theorem A00_apply (q : FVec Ideal S256x512 .f32) (g : Fin 4) (i : Fin 128) (e : Fin 64)
    (x : Fin 512) (hx : x.val = 128 * g.val + i.val) (y : Fin 256) (hy : y.val = i.val) (z : Fin 512) (hz : z.val = 64 * g.val + e.val) :
    A00 q (ix2 x e) = q (ix2 y z) := qg_apply q 0 0 _ _ _ _ g i e x hx y (by omega) z (by omega)
theorem A01_apply (q : FVec Ideal S256x512 .f32) (g : Fin 4) (i : Fin 128) (e : Fin 64)
    (x : Fin 512) (hx : x.val = 128 * g.val + i.val) (y : Fin 256) (hy : y.val = i.val) (z : Fin 512) (hz : z.val = 256 + 64 * g.val + e.val) :
    A01 q (ix2 x e) = q (ix2 y z) := qg_apply q 0 256 _ _ _ _ g i e x hx y (by omega) z (by omega)
theorem A10_apply (q : FVec Ideal S256x512 .f32) (g : Fin 4) (i : Fin 128) (e : Fin 64)
    (x : Fin 512) (hx : x.val = 128 * g.val + i.val) (y : Fin 256) (hy : y.val = 128 + i.val) (z : Fin 512) (hz : z.val = 64 * g.val + e.val) :
    A10 q (ix2 x e) = q (ix2 y z) := qg_apply q 128 0 _ _ _ _ g i e x hx y (by omega) z (by omega)
theorem A11_apply (q : FVec Ideal S256x512 .f32) (g : Fin 4) (i : Fin 128) (e : Fin 64)
    (x : Fin 512) (hx : x.val = 128 * g.val + i.val) (y : Fin 256) (hy : y.val = 128 + i.val) (z : Fin 512) (hz : z.val = 256 + 64 * g.val + e.val) :
    A11 q (ix2 x e) = q (ix2 y z) := qg_apply q 128 256 _ _ _ _ g i e x hx y (by omega) z (by omega)

/-! ## The loads -/

theorem load_apply (G : GBuf Ideal) (o p : ℕ) (h : ∀ a, (![o, p] : Fin 2 → ℕ) a + S1024x64.size a ≤ S4096x128.size a) (j : Fin 1024) (e : Fin 64)
    (y : Fin 4096) (hy : y.val = o + j.val) (z : Fin 128) (hz : z.val = p + e.val) :
    SM.view.readAt (Elt Ideal) (Rect.unit (s := S4096x128) ![o, p] S1024x64.size h).toLoadRect G (ix2 j e) = G (ix2 y z) := by
  show G _ = G _
  refine congrArg G (funext fun a => Fin.ext ?_)
  match a with
  | 0 => show o + 1 * j.val = y.val; omega
  | 1 => show p + 1 * e.val = z.val; omega

theorem x0_eq (X : FVec Ideal S256x512 .f32) : x0 (F := Ideal) X = X := by
  funext i
  show X _ = X _
  refine congrArg X (funext fun a => Fin.ext ?_)
  match a with
  | 0 => show 0 + 1 * (i 0).val = (i 0).val; omega
  | 1 => show 0 + 1 * (i 1).val = (i 1).val; omega
theorem x1_eq (X : FVec Ideal S512x512 .f32) : x1 (F := Ideal) X = X := by
  funext i
  show X _ = X _
  refine congrArg X (funext fun a => Fin.ext ?_)
  match a with
  | 0 => show 0 + 1 * (i 0).val = (i 0).val; omega
  | 1 => show 0 + 1 * (i 1).val = (i 1).val; omega
theorem x2_eq (X : FVec Ideal S512x512 .f32) : x2 (F := Ideal) X = X := by
  funext i
  show X _ = X _
  refine congrArg X (funext fun a => Fin.ext ?_)
  match a with
  | 0 => show 0 + 1 * (i 0).val = (i 0).val; omega
  | 1 => show 0 + 1 * (i 1).val = (i 1).val; omega

/-! ## The heads side by side -/

theorem cat8_left (a b : FVec Ideal S512x64 .f32) (g : Fin 4) (i : Fin 128) (d : Fin 64) (z : Fin 512) (hz : z.val = 64 * g.val + d.val)
    (x : Fin 512) (hx : x.val = 128 * g.val + i.val) : cat8 a b (ix2 i z) = a (ix2 x d) := by
  unfold cat8
  pointwise
  split_ifs <;> first | omega | (refine at2 a ?_ ?_ <;> simp only [] <;> omega)
theorem cat8_right (a b : FVec Ideal S512x64 .f32) (g : Fin 4) (i : Fin 128) (d : Fin 64) (z : Fin 512) (hz : z.val = 256 + 64 * g.val + d.val)
    (x : Fin 512) (hx : x.val = 128 * g.val + i.val) : cat8 a b (ix2 i z) = b (ix2 x d) := by
  unfold cat8
  pointwise
  split_ifs <;> first | omega | (refine at2 b ?_ ?_ <;> simp only [] <;> omega)

/-- The attention at batch `b`, row `i`, head `h`, column `d`. -/
theorem cat_apply (q : FVec Ideal S256x512 .f32) (G : GBuf Ideal) (b : Fin 2) (i : Fin 128) (h : Fin 8) (d : Fin 64)
    (y : Fin 256) (hy : y.val = 128 * b.val + i.val) (z : Fin 512) (hz : z.val = 64 * h.val + d.val) :
    cat q G (ix2 y z) = soft (fun e => q (ix2 y ⟨64 * h.val + e.val, by omega⟩))
      (fun j e => G (ix2 ⟨1024 * b.val + j.val, by omega⟩ ⟨64 * (h.val / 4) + e.val, by omega⟩))
      (fun j => G (ix2 ⟨2048 + 1024 * b.val + j.val, by omega⟩ ⟨64 * (h.val / 4) + d.val, by omega⟩)) := by
  have hg : h.val % 4 < 4 := Nat.mod_lt _ (by decide)
  have hr : 128 * (h.val % 4) + i.val < 512 := by omega
  have hb : b.val = 0 ∨ b.val = 1 := by omega
  have hh : h.val / 4 = 0 ∨ h.val / 4 = 1 := by omega
  unfold cat
  pointwise
  rcases hb with hb | hb <;> rcases hh with hh | hh
  · rw [dif_pos (by omega)]
    rw [show (ix2 (⟨y.val, by omega⟩ : Fin 128) z : S128x512.Idx) = ix2 i z from by congr 1; exact Fin.ext (by simp only []; omega)]
    rw [cat8_left _ _ ⟨h.val % 4, hg⟩ i d z (by simp only []; omega) ⟨128 * (h.val % 4) + i.val, hr⟩ rfl, att_apply]
    congr 1
    · funext e; exact A00_apply q ⟨h.val % 4, hg⟩ i e _ rfl _ (by omega) _ (by simp only []; omega)
    · funext j e; exact load_apply G 0 0 _ j e _ (by simp only []; omega) _ (by simp only []; omega)
    · funext j; exact load_apply G 2048 0 _ j d _ (by simp only []; omega) _ (by simp only []; omega)
  · rw [dif_pos (by omega)]
    rw [show (ix2 (⟨y.val, by omega⟩ : Fin 128) z : S128x512.Idx) = ix2 i z from by congr 1; exact Fin.ext (by simp only []; omega)]
    rw [cat8_right _ _ ⟨h.val % 4, hg⟩ i d z (by simp only []; omega) ⟨128 * (h.val % 4) + i.val, hr⟩ rfl, att_apply]
    congr 1
    · funext e; exact A01_apply q ⟨h.val % 4, hg⟩ i e _ rfl _ (by omega) _ (by simp only []; omega)
    · funext j e; exact load_apply G 0 64 _ j e _ (by simp only []; omega) _ (by simp only []; omega)
    · funext j; exact load_apply G 2048 64 _ j d _ (by simp only []; omega) _ (by simp only []; omega)
  · rw [dif_neg (by omega)]
    rw [show (ix2 (⟨y.val - 128, by omega⟩ : Fin 128) z : S128x512.Idx) = ix2 i z from by congr 1; exact Fin.ext (by simp only []; omega)]
    rw [cat8_left _ _ ⟨h.val % 4, hg⟩ i d z (by simp only []; omega) ⟨128 * (h.val % 4) + i.val, hr⟩ rfl, att_apply]
    congr 1
    · funext e; exact A10_apply q ⟨h.val % 4, hg⟩ i e _ rfl _ (by omega) _ (by simp only []; omega)
    · funext j e; exact load_apply G 1024 0 _ j e _ (by simp only []; omega) _ (by simp only []; omega)
    · funext j; exact load_apply G 3072 0 _ j d _ (by simp only []; omega) _ (by simp only []; omega)
  · rw [dif_neg (by omega)]
    rw [show (ix2 (⟨y.val - 128, by omega⟩ : Fin 128) z : S128x512.Idx) = ix2 i z from by congr 1; exact Fin.ext (by simp only []; omega)]
    rw [cat8_right _ _ ⟨h.val % 4, hg⟩ i d z (by simp only []; omega) ⟨128 * (h.val % 4) + i.val, hr⟩ rfl, att_apply]
    congr 1
    · funext e; exact A11_apply q ⟨h.val % 4, hg⟩ i e _ rfl _ (by omega) _ (by simp only []; omega)
    · funext j e; exact load_apply G 1024 64 _ j e _ (by simp only []; omega) _ (by simp only []; omega)
    · funext j; exact load_apply G 3072 64 _ j d _ (by simp only []; omega) _ (by simp only []; omega)

/-! ## The operands, from the arguments -/

variable (m : (ℓ : Loc nD τ sig) → Buf (Elt Ideal) ℓ)

/-- The five arguments on device `c`. -/
abbrev X (c : Dev nD) : FVec Ideal S2x128x512 .f32 := m ((c : Thread nD τ).loc main_arg0)
abbrev Wq (c : Dev nD) : FVec Ideal S512x512 .f32 := m ((c : Thread nD τ).loc main_arg1)
abbrev K (c : Dev nD) : FVec Ideal S2x128x2x64 .f32 := m ((c : Thread nD τ).loc main_arg2)
abbrev Vl (c : Dev nD) : FVec Ideal S2x128x2x64 .f32 := m ((c : Thread nD τ).loc main_arg3)
abbrev Wo (c : Dev nD) : FVec Ideal S512x512 .f32 := m ((c : Thread nD τ).loc main_arg4)

theorem V_v1 (c : Dev nD) : V (F := Ideal) m c main_v1 = shapeCast S256x512 (X m c) shapeCasts_S2x128x512_S256x512 := by
  show StableHlo.after hostOps0 (fun b => m (c, b)) _ = _
  after_results_simp <;> rfl

theorem V_v4 (c : Dev nD) : V (F := Ideal) m c main_v4 = concatenate S512x128 0 [⟨S256x128, shapeCast S256x128 (K m c) shapeCasts_S2x128x2x64_S256x128⟩,
    ⟨S256x128, shapeCast S256x128 (Vl m c) shapeCasts_S2x128x2x64_S256x128⟩] concatenates_S256x128_S256x128_S512x128_d0 := by
  show StableHlo.after hostOps0 (fun b => m (c, b)) _ = _
  after_results_simp <;> rfl

/-- The packed keys, then the packed values, of one device. -/
theorem V_v4_key (c : Dev nD) (b : Fin 2) (r : Fin 128) (kh : Fin 2) (e : Fin 64) (y : Fin 512) (hy : y.val = 128 * b.val + r.val)
    (z : Fin 128) (hz : z.val = 64 * kh.val + e.val) :
    (V (F := Ideal) m c main_v4 : FVec Ideal S512x128 .f32) (ix2 y z) = K m c (ix4 b r kh e) := by
  rw [V_v4]
  pointwise
  rw [dif_pos (by omega)]
  congr 2 <;> exact Fin.ext (by simp only []; omega)
theorem V_v4_val (c : Dev nD) (b : Fin 2) (r : Fin 128) (kh : Fin 2) (e : Fin 64) (y : Fin 512) (hy : y.val = 256 + 128 * b.val + r.val)
    (z : Fin 128) (hz : z.val = 64 * kh.val + e.val) :
    (V (F := Ideal) m c main_v4 : FVec Ideal S512x128 .f32) (ix2 y z) = Vl m c (ix4 b r kh e) := by
  rw [V_v4]
  pointwise
  rw [dif_neg (by omega)]
  congr 2 <;> exact Fin.ext (by simp only []; omega)

/-- The gather buffer, from every device's keys and values. -/
theorem gath_key (b : Fin 2) (j : Fin 1024) (kh : Fin 2) (e : Fin 64) (y : Fin 4096) (hy : y.val = 1024 * b.val + j.val)
    (z : Fin 128) (hz : z.val = 64 * kh.val + e.val) :
    gath m (ix2 y z) = K m ⟨j.val / 128, by show _ < 8; omega⟩ (ix4 b ⟨j.val % 128, by omega⟩ kh e) := by
  show V m (rowDev y.val) main_v4 (rowIdx (ix2 y z)) = _
  rw [show rowDev y.val = (⟨j.val / 128, by show _ < 8; omega⟩ : Dev nD) from Fin.ext (by simp only [rowDev]; omega)]
  rw [show rowIdx (ix2 y z) = (ix2 (⟨128 * b.val + j.val % 128, by omega⟩ : Fin 512) z : S512x128.Idx) from by
    funext a
    match a with
    | 0 => exact Fin.ext (by show 128 * (y.val / 1024) + y.val % 128 = 128 * b.val + j.val % 128; omega)
    | 1 => rfl]
  exact V_v4_key m _ b ⟨j.val % 128, by omega⟩ kh e _ rfl z hz
theorem gath_val (b : Fin 2) (j : Fin 1024) (kh : Fin 2) (e : Fin 64) (y : Fin 4096) (hy : y.val = 2048 + 1024 * b.val + j.val)
    (z : Fin 128) (hz : z.val = 64 * kh.val + e.val) :
    gath m (ix2 y z) = Vl m ⟨j.val / 128, by show _ < 8; omega⟩ (ix4 b ⟨j.val % 128, by omega⟩ kh e) := by
  show V m (rowDev y.val) main_v4 (rowIdx (ix2 y z)) = _
  rw [show rowDev y.val = (⟨j.val / 128, by show _ < 8; omega⟩ : Dev nD) from Fin.ext (by simp only [rowDev]; omega)]
  rw [show rowIdx (ix2 y z) = (ix2 (⟨256 + 128 * b.val + j.val % 128, by omega⟩ : Fin 512) z : S512x128.Idx) from by
    funext a
    match a with
    | 0 => exact Fin.ext (by show 128 * (y.val / 1024) + y.val % 128 = 256 + 128 * b.val + j.val % 128; omega)
    | 1 => rfl]
  exact V_v4_val m _ b ⟨j.val % 128, by omega⟩ kh e _ rfl z hz

/-- The queries: the input times its projection. -/
theorem pay6_apply (c : Dev nD) (b : Fin 2) (i : Fin 128) (n : Fin 512) (y : Fin 256) (hy : y.val = 128 * b.val + i.val) :
    k0_pay6 (F := Ideal) (x0 (V m c main_v1)) (x1 (V m c main_arg1)) (ix2 y n) = ∑ t, X m c (ix3 b i t) * Wq m c (ix2 t n) := by
  rw [x0_eq, x1_eq, V_v1, V_main_arg1]
  unfold k0_pay6
  pointwise
  refine Finset.sum_congr rfl fun t _ => ?_
  congr 3 <;> exact Fin.ext (by simp only []; omega)

/-- The result of device `c` at batch `b`, row `i`, column `n`. -/
theorem out_apply (c : Dev nD) (b : Fin 2) (i : Fin 128) (n : Fin 512) :
    (shapeCast S2x128x512 (outV (F := Ideal) m c : FVec Ideal S256x512 .f32) shapeCasts_S256x512_S2x128x512 : FVec Ideal S2x128x512 .f32) (ix3 b i n)
      = ∑ z : Fin 512, soft (fun e => ∑ t, X m c (ix3 b i t) * Wq m c (ix2 t ⟨64 * (z.val / 64) + e.val, by omega⟩))
          (fun j e => K m ⟨j.val / 128, by show _ < 8; omega⟩ (ix4 b ⟨j.val % 128, by omega⟩ ⟨z.val / 256, by omega⟩ e))
          (fun j => Vl m ⟨j.val / 128, by show _ < 8; omega⟩ (ix4 b ⟨j.val % 128, by omega⟩ ⟨z.val / 256, by omega⟩ ⟨z.val % 64, by omega⟩))
        * Wo m c (ix2 z n) := by
  have hb := b.isLt
  have hi := i.isLt
  have e : ∀ w : FVec Ideal S256x512 .f32, shapeCast S2x128x512 w shapeCasts_S256x512_S2x128x512 (ix3 b i n)
      = w (ix2 (⟨128 * b.val + i.val, by omega⟩ : Fin 256) n) := by
    intro w
    pointwise
    congr 2
    exact Fin.ext (by show b.val * 128 + i.val = 128 * b.val + i.val; omega)
  rw [e]
  unfold outV
  rw [outOf_eq, x2_eq, V_main_arg4]
  generalize hq : k0_pay6 (F := Ideal) (x0 (V m c main_v1)) (x1 (V m c main_arg1)) = q
  pointwise
  refine Finset.sum_congr rfl fun z _ => ?_
  refine congrArg (· * _) ?_
  have hz := z.isLt
  rw [cat_apply q (gath m) b i ⟨z.val / 64, by omega⟩ ⟨z.val % 64, by omega⟩ _ rfl z (by simp only []; omega)]
  subst hq
  congr 1
  · funext e; exact pay6_apply m c b i _ _ rfl
  · funext j e; exact gath_key m b j ⟨z.val / 256, by omega⟩ e _ rfl _ (by simp only []; omega)
  · funext j; exact gath_val m b j ⟨z.val / 256, by omega⟩ ⟨z.val % 64, by omega⟩ _ rfl _ (by simp only []; omega)

end Cert.KernelIdeal.Attn

end
-- ==== Proof.RefAttn.lean ====
/-
  The reference read at an index: the same softmax of scaled scores times the values, then the output projection.
-/
module

public import proofs.«01_k».proof.Proof.Gen.ReferenceIdeal.Run
public import proofs.«01_k».proof.Proof.Attn

@[expose] public section

noncomputable section

namespace Cert.ReferenceIdeal.Attn

open Cert.ReferenceIdeal Cert.ReferenceIdeal.Gen Cert.ReferenceIdeal.Value
open Idealize.ShloMosaic Idealize.ShloMosaic.TcCoe

variable (m : (ℓ : Loc nD τ sig) → Buf (Elt Ideal) ℓ)

/-- The five arguments. -/
abbrev X : FVec Ideal S2x128x512 .f32 := m (((0 : Dev nD).tc : Thread nD τ).loc main_arg0)
abbrev Wq : FVec Ideal S512x512 .f32 := m (((0 : Dev nD).tc : Thread nD τ).loc main_arg1)
abbrev K : FVec Ideal S2x1024x2x64 .f32 := m (((0 : Dev nD).tc : Thread nD τ).loc main_arg2)
abbrev Vl : FVec Ideal S2x1024x2x64 .f32 := m (((0 : Dev nD).tc : Thread nD τ).loc main_arg3)
abbrev Wo : FVec Ideal S512x512 .f32 := m (((0 : Dev nD).tc : Thread nD τ).loc main_arg4)

open Cert.KernelIdeal.Attn (soft top cs lo)

/-- The reference starts its running maximum at minus infinity, which no maximum keeps. -/
theorem max_lo (x : EReal) : max (Ideal.ofBits FTy.f32 0xFF800000#32) x = x := by
  rw [show Ideal.ofBits FTy.f32 0xFF800000#32 = (⊥ : EReal) by simp [Ideal.ofBits, Ideal.ieee]]
  exact max_bot_left x

/-- The result. -/
def R : FVec Ideal S2x128x512 .f32 := res_main_v34 (F := Ideal) m 0

/-- The result at batch `b`, row `i`, column `n`. -/
theorem res_apply (b : Fin 2) (i : Fin 128) (n : Fin 512) :
    R m (ix3 b i n)
      = (∑ z : Fin 512, soft (fun e => ∑ t, X m (ix3 b i t) * Wq m (ix2 t ⟨z.val / 64 * 64 + e.val, by omega⟩))
          (fun j e => K m (ix4 b j ⟨z.val / 64 / 4, by omega⟩ e))
          (fun j => Vl m (ix4 b j ⟨z.val / 64 / 4, by omega⟩ ⟨z.val % 64, by omega⟩)) * Wo m (ix2 z n) : EReal) := by
  unfold R res_main_v34
  pointwise
  refine Finset.sum_congr rfl fun z _ => ?_
  refine congrArg (· * _) ?_
  simp only [max_lo, zero_mul, zero_add]
  unfold soft top
  refine congrArg₂ Ideal.div ?_ rfl
  exact Finset.sum_congr rfl fun j _ => mul_comm _ _

end Cert.ReferenceIdeal.Attn

end
-- ==== Proof.Equal.lean ====
/-
  The kernel's result is the reference's, when every device holds its part of the reference's arguments.
-/
module

public import proofs.«01_k».proof.Proof.RefAttn
public import Idealize.ShloMosaic.Lib.Layout

@[expose] public section

noncomputable section

namespace Cert.Equal

open Idealize.ShloMosaic Idealize.ShloMosaic.TcCoe
open Cert.KernelIdeal.Attn (soft)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Position `j` of the whole sequence is position `j % 128` of device `j / 128`. -/
theorem block_at (w : FVec Ideal Cert.ReferenceIdeal.S2x1024x2x64 .f32) (b : Fin 2) (j : Fin 1024) (kh : Fin 2) (e : Fin 64) (c : Fin 8)
    (hc : c.val = j.val / 128) (r : Fin 128) (hr : r.val = j.val % 128) :
    (Layout.block (⟨4, ![2, 128, 2, 64]⟩ : Shape) (⟨4, ![2, 1024, 2, 64]⟩ : Shape) 1 8 c w : FVec Ideal Cert.KernelIdeal.S2x128x2x64 .f32) (ix4 b r kh e)
      = w (ix4 b j kh e) := by
  rw [Layout.block_apply]
  refine congrArg w ?_
  funext a
  refine Fin.ext ?_
  rw [Layout.Tiles.idx_val]
  match a with
  | 0 => rfl
  | 1 => show c.val * 128 + r.val = j.val; omega
  | 2 => rfl
  | 3 => rfl

theorem out_eq (h0 : ∀ c, Cert.KernelIdeal.Attn.X m c = Cert.ReferenceIdeal.Attn.X m')
    (h1 : ∀ c, Cert.KernelIdeal.Attn.Wq m c = Cert.ReferenceIdeal.Attn.Wq m')
    (h2 : ∀ c, Cert.KernelIdeal.Attn.K m c = Layout.block (⟨4, ![2, 128, 2, 64]⟩ : Shape) (⟨4, ![2, 1024, 2, 64]⟩ : Shape) 1 8 c (Cert.ReferenceIdeal.Attn.K m'))
    (h3 : ∀ c, Cert.KernelIdeal.Attn.Vl m c = Layout.block (⟨4, ![2, 128, 2, 64]⟩ : Shape) (⟨4, ![2, 1024, 2, 64]⟩ : Shape) 1 8 c (Cert.ReferenceIdeal.Attn.Vl m'))
    (h4 : ∀ c, Cert.KernelIdeal.Attn.Wo m c = Cert.ReferenceIdeal.Attn.Wo m') (c : Dev Cert.KernelIdeal.nD) :
    (shapeCast Cert.KernelIdeal.S2x128x512 (Cert.KernelIdeal.Own.outV (F := Ideal) m c : FVec Ideal Cert.KernelIdeal.S256x512 .f32)
        Cert.KernelIdeal.Gen.shapeCasts_S256x512_S2x128x512 : FVec Ideal Cert.KernelIdeal.S2x128x512 .f32)
      = Cert.ReferenceIdeal.Attn.R m' := by
  funext x
  obtain ⟨b, i, n, rfl⟩ : ∃ (b : Fin 2) (i : Fin 128) (n : Fin 512), x = ix3 b i n := ⟨x 0, x 1, x 2, eq_ix3 x⟩
  rw [Cert.KernelIdeal.Attn.out_apply]
  refine Eq.trans ?_ (Cert.ReferenceIdeal.Attn.res_apply m' b i n).symm
  refine Finset.sum_congr rfl fun z _ => ?_
  have hz := z.isLt
  rw [h0, h1, h4]
  refine congrArg (· * _) ?_
  congr 1
  · funext e
    refine Finset.sum_congr rfl fun t _ => ?_
    refine congrArg (fun y => _ * Cert.ReferenceIdeal.Attn.Wq m' (ix2 t y)) (Fin.ext ?_)
    show 64 * (z.val / 64) + e.val = z.val / 64 * 64 + e.val
    omega
  · funext j e
    rw [h2]
    refine (block_at _ b j _ e _ rfl _ rfl).trans ?_
    refine congrArg (fun y => Cert.ReferenceIdeal.Attn.K m' (ix4 b j y e)) (Fin.ext ?_)
    show z.val / 256 = z.val / 64 / 4
    omega
  · funext j
    rw [h3]
    refine (block_at _ b j _ _ _ rfl _ rfl).trans ?_
    refine congrArg (fun y => Cert.ReferenceIdeal.Attn.Vl m' (ix4 b j y ⟨z.val % 64, by omega⟩)) (Fin.ext ?_)
    show z.val / 256 = z.val / 64 / 4
    omega

end Cert.Equal

end
-- ==== Proof.lean ====
module

public import proofs.«01_k».proof.Defs
public import proofs.«01_k».proof.Proof.Gen.ReferenceIdeal
public import proofs.«01_k».proof.Proof.Gen.ReferenceIdeal.Run
public import proofs.«01_k».proof.Proof.Bits.Launch
public import proofs.«01_k».proof.Proof.Launch
public import proofs.«01_k».proof.Proof.Equal
public import Idealize.ShloMosaic.Adequacy
public import Idealize.ShloMosaic.Init

@[expose] public section

noncomputable section

namespace Cert.Proof

open Idealize.ShloMosaic Idealize.SL.Sem

/-- The kernel as printed: it ends, its arguments unchanged, every semaphore at zero. -/
theorem frame_P : Cert.quiescent_Kernel (hKernel := Cert.Kernel.Gen.facts) := fun m ρ _ =>
  (θ_run Cert.Kernel.defs _ _).mono (fun _ h => ⟨fun c => (h.1 c).1, h.2⟩) (Cert.Kernel.Own.run_main (F := Bits) m ρ)

/-- The same of the kernel over the extended reals. -/
theorem frame_PI : Cert.quiescent_KernelIdeal (hKernelIdeal := Cert.KernelIdeal.Gen.facts) := fun m ρ _ =>
  (θ_run Cert.KernelIdeal.defs _ _).mono (fun _ h => ⟨fun c => (h.1 c).1, h.2⟩) (Cert.KernelIdeal.Own.run_main (F := Ideal) m ρ)

/-- The reference is host operations only and declares no semaphore. -/
theorem frame_RI : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Every device's result is the reference's result. -/
theorem algebraic : Cert.algebraic_KernelIdeal_ReferenceIdeal (hKernelIdeal := Cert.KernelIdeal.Gen.facts)
    (hReferenceIdeal := Cert.ReferenceIdeal.Gen.facts) := fun m g m' g' _ hm =>
  ⟨Cert.ReferenceIdeal.Value.res_main_v34 (F := Ideal) m' 0,
    (θ_run Cert.KernelIdeal.defs _ _).mono
      (fun _ h c => ⟨((h.1 c).2).trans (Cert.Equal.out_eq m m' (fun c => (hm c).1) (fun c => (hm c).2.1) (fun c => (hm c).2.2.1)
        (fun c => (hm c).2.2.2.1) (fun c => (hm c).2.2.2.2) c), (h.1 c).1⟩)
      (Cert.KernelIdeal.Own.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_P, frame_PI, frame_RI, trivial, algebraic⟩

end Cert.Proof

end
